-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 2048]⟩ ⟨2, ![4096, 2048]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 2048]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![1024, 2048]⟩ ⟨2, ![4096, 2048]⟩ (Layout.meshBlock [2, 4, 4] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![4096, 512]⟩ ⟨2, ![4096, 2048]⟩ (Layout.meshBlock [2, 4, 4] ![[], [1]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x2048 : Shape := ⟨2, ![1024, 2048]⟩
abbrev S4096x512 : Shape := ⟨2, ![4096, 512]⟩
abbrev S3x256x512 : Shape := ⟨3, ![3, 256, 512]⟩
abbrev S3 : Shape := ⟨1, ![3]⟩
abbrev S_ : Shape := ⟨0, ![]⟩
abbrev S1 : Shape := ⟨1, ![1]⟩
abbrev S1x256x512 : Shape := ⟨3, ![1, 256, 512]⟩
abbrev S256x512 : Shape := ⟨2, ![256, 512]⟩
abbrev S1024x512 : Shape := ⟨2, ![1024, 512]⟩
abbrev S1x128x512 : Shape := ⟨3, ![1, 128, 512]⟩
abbrev S128x512 : Shape := ⟨2, ![128, 512]⟩

abbrev nBuf : Space → Nat
  | .hbm => 2
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S4096x512, .f32⟩
  | .local _ .vmem, ⟨0, _⟩ => ⟨S1024x2048, .f32⟩
  | .local _ .vmem, ⟨1, _⟩ => ⟨S4096x512, .f32⟩
  | .local _ .vmem, ⟨2, _⟩ => ⟨S3x256x512, .f32⟩
  | .local _ .vmem, ⟨3, _⟩ => ⟨S3x256x512, .f32⟩
  | .local _ .vmem, ⟨4, _⟩ => ⟨S3x256x512, .f32⟩
  | .local _ .vmem, ⟨5, _⟩ => ⟨S3x256x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v17 : BitVec 32 := Scalar.muli v2 c16_i32_9
  let v18 : BitVec 32 := Scalar.addi c0_i32 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v15 : BitVec 32 := Scalar.addi v5 c1_i32_6
  let c4_i32_7 : BitVec 32 := 4#32
  let v16 : BitVec 32 := Scalar.remsi v15 c4_i32_7
  let c4_i32_10 : BitVec 32 := 4#32
  let v19 : BitVec 32 := Scalar.muli v16 c4_i32_10
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.muli v8 c1_i32_11
  let v22 : BitVec 32 := Scalar.addi v20 v21
  v22.toNat
def k0_dev2 (d0 : Dev nD) : Nat :=
  let c0_i32_16 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_15 : BitVec 32 := 16#32
  let v25 : BitVec 32 := Scalar.muli v2 c16_i32_15
  let v26 : BitVec 32 := Scalar.addi c0_i32_16 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_12 : BitVec 32 := 2#32
  let v23 : BitVec 32 := Scalar.addi v5 c2_i32_12
  let c4_i32_13 : BitVec 32 := 4#32
  let v24 : BitVec 32 := Scalar.remsi v23 c4_i32_13
  let c4_i32_17 : BitVec 32 := 4#32
  let v27 : BitVec 32 := Scalar.muli v24 c4_i32_17
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v29 : BitVec 32 := Scalar.muli v8 c1_i32_18
  let v30 : BitVec 32 := Scalar.addi v28 v29
  v30.toNat
def k0_dev3 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v33 : BitVec 32 := Scalar.muli v2 c16_i32_21
  let v34 : BitVec 32 := Scalar.addi c0_i32_22 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v31 : BitVec 32 := Scalar.addi v5 c3_i32
  let c4_i32_19 : BitVec 32 := 4#32
  let v32 : BitVec 32 := Scalar.remsi v31 c4_i32_19
  let c4_i32_23 : BitVec 32 := 4#32
  let v35 : BitVec 32 := Scalar.muli v32 c4_i32_23
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v37 : BitVec 32 := Scalar.muli v8 c1_i32_24
  let v38 : BitVec 32 := Scalar.addi v36 v37
  v38.toNat
def k0_dev4 (d0 : Dev nD) : Nat :=
  let c0_i32_27 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_26 : BitVec 32 := 16#32
  let v39 : BitVec 32 := Scalar.muli v2 c16_i32_26
  let v40 : BitVec 32 := Scalar.addi c0_i32_27 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v41 : BitVec 32 := Scalar.muli v5 c4_i32_28
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_3 : BitVec 32 := 2#32
  let v10 : BitVec 32 := Scalar.remsi v8 c2_i32_3
  let v12 : BitVec 32 := Scalar.muli c2_i32_5 v10
  let v13 : BitVec 32 := Scalar.subi v11 v12
  let c1_i32_29 : BitVec 32 := 1#32
  let v43 : BitVec 32 := Scalar.muli v13 c1_i32_29
  let v44 : BitVec 32 := Scalar.addi v42 v43
  v44.toNat
def k0_dev5 (d0 : Dev nD) : Nat :=
  let c0_i32_32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_31 : BitVec 32 := 16#32
  let v45 : BitVec 32 := Scalar.muli v9 c16_i32_31
  let v46 : BitVec 32 := Scalar.addi c0_i32_32 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_33 : BitVec 32 := 4#32
  let v47 : BitVec 32 := Scalar.muli v5 c4_i32_33
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v49 : BitVec 32 := Scalar.muli v8 c1_i32_34
  let v50 : BitVec 32 := Scalar.addi v48 v49
  v50.toNat
def k0_off1 (d0 : Dev nD) (c1_i32_35 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2_i32_37 : BitVec 32 := 2#32
  let v53 : BitVec 32 := Scalar.muli v2 c2_i32_37
  let c256_i32 : BitVec 32 := 256#32
  let v54 : BitVec 32 := Scalar.muli v53 c256_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let c256_i32_38 : BitVec 32 := 256#32
  let v55 : BitVec 32 := Scalar.muli v10 c256_i32_38
  let v56 : BitVec 32 := Scalar.addi v54 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v51 : BitVec 32 := Scalar.addi v5 c1_i32_35
  let c4_i32_36 : BitVec 32 := 4#32
  let v52 : BitVec 32 := Scalar.remsi v51 c4_i32_36
  let c512_i32 : BitVec 32 := 512#32
  let v57 : BitVec 32 := Scalar.muli v52 c512_i32
  ![v56.toNat, v57.toNat]
def k0_dev6 (d0 : Dev nD) : Nat :=
  let c0_i32_43 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_42 : BitVec 32 := 16#32
  let v58 : BitVec 32 := Scalar.muli v2 c16_i32_42
  let v59 : BitVec 32 := Scalar.addi c0_i32_43 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_35 : BitVec 32 := 1#32
  let v51 : BitVec 32 := Scalar.addi v5 c1_i32_35
  let c4_i32_36 : BitVec 32 := 4#32
  let v52 : BitVec 32 := Scalar.remsi v51 c4_i32_36
  let c4_i32_44 : BitVec 32 := 4#32
  let v60 : BitVec 32 := Scalar.muli v52 c4_i32_44
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v62 : BitVec 32 := Scalar.muli v8 c1_i32_45
  let v63 : BitVec 32 := Scalar.addi v61 v62
  v63.toNat
def k0_dev7 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v78 : BitVec 32 := Scalar.muli v2 c16_i32_57
  let v79 : BitVec 32 := Scalar.addi c0_i32_58 v78
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_48 : BitVec 32 := 2#32
  let v71 : BitVec 32 := Scalar.addi v5 c2_i32_48
  let c4_i32_49 : BitVec 32 := 4#32
  let v72 : BitVec 32 := Scalar.remsi v71 c4_i32_49
  let c4_i32_59 : BitVec 32 := 4#32
  let v80 : BitVec 32 := Scalar.muli v72 c4_i32_59
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v82 : BitVec 32 := Scalar.muli v8 c1_i32_60
  let v83 : BitVec 32 := Scalar.addi v81 v82
  v83.toNat
def k0_dev8 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v98 : BitVec 32 := Scalar.muli v2 c16_i32_72
  let v99 : BitVec 32 := Scalar.addi c0_i32_73 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_63 : BitVec 32 := 3#32
  let v91 : BitVec 32 := Scalar.addi v5 c3_i32_63
  let c4_i32_64 : BitVec 32 := 4#32
  let v92 : BitVec 32 := Scalar.remsi v91 c4_i32_64
  let c4_i32_74 : BitVec 32 := 4#32
  let v100 : BitVec 32 := Scalar.muli v92 c4_i32_74
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v102 : BitVec 32 := Scalar.muli v8 c1_i32_75
  let v103 : BitVec 32 := Scalar.addi v101 v102
  v103.toNat
def k0_off2 (d0 : Dev nD) : Fin 2 → Nat :=
  let c0 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_78 : BitVec 32 := 512#32
  let v111 : BitVec 32 := Scalar.muli v5 c512_i32_78
  let v112 : Index := Scalar.indexCast v111
  ![0, v112.toNat]
def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32 : BitVec 32 := 1024#32
  let v115 : BitVec 32 := Scalar.muli v5 c1024_i32
  let v116 : Index := Scalar.indexCast v115
  let c0_79 : Index := 0#32
  ![v116.toNat, 0]
def k0_dev9 (d0 : Dev nD) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_100 : BitVec 32 := 16#32
  let v134 : BitVec 32 := Scalar.muli v2 c16_i32_100
  let v135 : BitVec 32 := Scalar.addi c0_i32_101 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_102 : BitVec 32 := 4#32
  let v136 : BitVec 32 := Scalar.muli v5 c4_i32_102
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_3 : BitVec 32 := 2#32
  let v10 : BitVec 32 := Scalar.remsi v8 c2_i32_3
  let v12 : BitVec 32 := Scalar.muli c2_i32_5 v10
  let v13 : BitVec 32 := Scalar.subi v11 v12
  let c1_i32_103 : BitVec 32 := 1#32
  let v138 : BitVec 32 := Scalar.muli v13 c1_i32_103
  let v139 : BitVec 32 := Scalar.addi v137 v138
  v139.toNat
def k0_dev10 (d0 : Dev nD) : Nat :=
  let c0_i32_113 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_112 : BitVec 32 := 16#32
  let v148 : BitVec 32 := Scalar.muli v9 c16_i32_112
  let v149 : BitVec 32 := Scalar.addi c0_i32_113 v148
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_114 : BitVec 32 := 4#32
  let v150 : BitVec 32 := Scalar.muli v5 c4_i32_114
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v152 : BitVec 32 := Scalar.muli v8 c1_i32_115
  let v153 : BitVec 32 := Scalar.addi v151 v152
  v153.toNat
def k0_off4 (d0 : Dev nD) (c1_i32_80 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v118 : BitVec 32 := Scalar.subi v5 c1_i32_80
  let c4_i32_81 : BitVec 32 := 4#32
  let v119 : BitVec 32 := Scalar.addi v118 c4_i32_81
  let c4_i32_82 : BitVec 32 := 4#32
  let v120 : BitVec 32 := Scalar.remsi v119 c4_i32_82
  let c1024_i32_83 : BitVec 32 := 1024#32
  let v121 : BitVec 32 := Scalar.muli v120 c1024_i32_83
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2_i32_123 : BitVec 32 := 2#32
  let v164 : BitVec 32 := Scalar.muli v2 c2_i32_123
  let c256_i32_124 : BitVec 32 := 256#32
  let v165 : BitVec 32 := Scalar.muli v164 c256_i32_124
  let v166 : BitVec 32 := Scalar.addi v121 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let c256_i32_125 : BitVec 32 := 256#32
  let v167 : BitVec 32 := Scalar.muli v10 c256_i32_125
  let v168 : BitVec 32 := Scalar.addi v166 v167
  let v169 : Index := Scalar.indexCast v168
  let c0_126 : Index := 0#32
  ![v169.toNat, 0]
def k0_dev11 (d0 : Dev nD) : Nat :=
  let c0_i32_144 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_143 : BitVec 32 := 16#32
  let v183 : BitVec 32 := Scalar.muli v9 c16_i32_143
  let v184 : BitVec 32 := Scalar.addi c0_i32_144 v183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_145 : BitVec 32 := 4#32
  let v185 : BitVec 32 := Scalar.muli v5 c4_i32_145
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v187 : BitVec 32 := Scalar.muli v8 c1_i32_146
  let v188 : BitVec 32 := Scalar.addi v186 v187
  v188.toNat
def k0_off5 (d0 : Dev nD) (c1_i32_80 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v118 : BitVec 32 := Scalar.subi v5 c1_i32_80
  let c4_i32_81 : BitVec 32 := 4#32
  let v119 : BitVec 32 := Scalar.addi v118 c4_i32_81
  let c4_i32_82 : BitVec 32 := 4#32
  let v120 : BitVec 32 := Scalar.remsi v119 c4_i32_82
  let c1024_i32_83 : BitVec 32 := 1024#32
  let v121 : BitVec 32 := Scalar.muli v120 c1024_i32_83
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2_i32_154 : BitVec 32 := 2#32
  let v200 : BitVec 32 := Scalar.muli v2 c2_i32_154
  let c256_i32_155 : BitVec 32 := 256#32
  let v201 : BitVec 32 := Scalar.muli v200 c256_i32_155
  let v202 : BitVec 32 := Scalar.addi v121 v201
  let c1_i32_153 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v199 : BitVec 32 := Scalar.subi c1_i32_153 v10
  let c256_i32_156 : BitVec 32 := 256#32
  let v203 : BitVec 32 := Scalar.muli v199 c256_i32_156
  let v204 : BitVec 32 := Scalar.addi v202 v203
  let v205 : Index := Scalar.indexCast v204
  let c0_157 : Index := 0#32
  ![v205.toNat, 0]
def k0_dev12 (d0 : Dev nD) : Nat :=
  let c0_i32_175 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_174 : BitVec 32 := 16#32
  let v219 : BitVec 32 := Scalar.muli v2 c16_i32_174
  let v220 : BitVec 32 := Scalar.addi c0_i32_175 v219
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_176 : BitVec 32 := 4#32
  let v221 : BitVec 32 := Scalar.muli v5 c4_i32_176
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_3 : BitVec 32 := 2#32
  let v10 : BitVec 32 := Scalar.remsi v8 c2_i32_3
  let v12 : BitVec 32 := Scalar.muli c2_i32_5 v10
  let v13 : BitVec 32 := Scalar.subi v11 v12
  let c1_i32_177 : BitVec 32 := 1#32
  let v223 : BitVec 32 := Scalar.muli v13 c1_i32_177
  let v224 : BitVec 32 := Scalar.addi v222 v223
  v224.toNat
def k0_off6 (d0 : Dev nD) (c1_i32_80 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v118 : BitVec 32 := Scalar.subi v5 c1_i32_80
  let c4_i32_81 : BitVec 32 := 4#32
  let v119 : BitVec 32 := Scalar.addi v118 c4_i32_81
  let c4_i32_82 : BitVec 32 := 4#32
  let v120 : BitVec 32 := Scalar.remsi v119 c4_i32_82
  let c1024_i32_83 : BitVec 32 := 1024#32
  let v121 : BitVec 32 := Scalar.muli v120 c1024_i32_83
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c2_i32_185 : BitVec 32 := 2#32
  let v235 : BitVec 32 := Scalar.muli v9 c2_i32_185
  let c256_i32_186 : BitVec 32 := 256#32
  let v236 : BitVec 32 := Scalar.muli v235 c256_i32_186
  let v237 : BitVec 32 := Scalar.addi v121 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let c256_i32_187 : BitVec 32 := 256#32
  let v238 : BitVec 32 := Scalar.muli v10 c256_i32_187
  let v239 : BitVec 32 := Scalar.addi v237 v238
  let v240 : Index := Scalar.indexCast v239
  let c0_188 : Index := 0#32
  ![v240.toNat, 0]
def k0_dev13 (d0 : Dev nD) : Nat :=
  let c0_i32_210 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_209 : BitVec 32 := 16#32
  let v258 : BitVec 32 := Scalar.muli v2 c16_i32_209
  let v259 : BitVec 32 := Scalar.addi c0_i32_210 v258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_211 : BitVec 32 := 4#32
  let v260 : BitVec 32 := Scalar.muli v5 c4_i32_211
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_3 : BitVec 32 := 2#32
  let v10 : BitVec 32 := Scalar.remsi v8 c2_i32_3
  let v12 : BitVec 32 := Scalar.muli c2_i32_5 v10
  let v13 : BitVec 32 := Scalar.subi v11 v12
  let c1_i32_212 : BitVec 32 := 1#32
  let v262 : BitVec 32 := Scalar.muli v13 c1_i32_212
  let v263 : BitVec 32 := Scalar.addi v261 v262
  v263.toNat
def k0_dev14 (d0 : Dev nD) : Nat :=
  let c0_i32_222 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_221 : BitVec 32 := 16#32
  let v272 : BitVec 32 := Scalar.muli v9 c16_i32_221
  let v273 : BitVec 32 := Scalar.addi c0_i32_222 v272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_223 : BitVec 32 := 4#32
  let v274 : BitVec 32 := Scalar.muli v5 c4_i32_223
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v276 : BitVec 32 := Scalar.muli v8 c1_i32_224
  let v277 : BitVec 32 := Scalar.addi v275 v276
  v277.toNat
def k0_dev15 (d0 : Dev nD) : Nat :=
  let c0_i32_252 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_251 : BitVec 32 := 16#32
  let v307 : BitVec 32 := Scalar.muli v9 c16_i32_251
  let v308 : BitVec 32 := Scalar.addi c0_i32_252 v307
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_253 : BitVec 32 := 4#32
  let v309 : BitVec 32 := Scalar.muli v5 c4_i32_253
  let v310 : BitVec 32 := Scalar.addi v308 v309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v311 : BitVec 32 := Scalar.muli v8 c1_i32_254
  let v312 : BitVec 32 := Scalar.addi v310 v311
  v312.toNat
def k0_dev16 (d0 : Dev nD) : Nat :=
  let c0_i32_284 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_283 : BitVec 32 := 16#32
  let v343 : BitVec 32 := Scalar.muli v2 c16_i32_283
  let v344 : BitVec 32 := Scalar.addi c0_i32_284 v343
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_285 : BitVec 32 := 4#32
  let v345 : BitVec 32 := Scalar.muli v5 c4_i32_285
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_3 : BitVec 32 := 2#32
  let v10 : BitVec 32 := Scalar.remsi v8 c2_i32_3
  let v12 : BitVec 32 := Scalar.muli c2_i32_5 v10
  let v13 : BitVec 32 := Scalar.subi v11 v12
  let c1_i32_286 : BitVec 32 := 1#32
  let v347 : BitVec 32 := Scalar.muli v13 c1_i32_286
  let v348 : BitVec 32 := Scalar.addi v346 v347
  v348.toNat
def k0_dev17 (d0 : Dev nD) : Nat :=
  let c0_i32_319 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_318 : BitVec 32 := 16#32
  let v382 : BitVec 32 := Scalar.muli v2 c16_i32_318
  let v383 : BitVec 32 := Scalar.addi c0_i32_319 v382
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_320 : BitVec 32 := 4#32
  let v384 : BitVec 32 := Scalar.muli v5 c4_i32_320
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_3 : BitVec 32 := 2#32
  let v10 : BitVec 32 := Scalar.remsi v8 c2_i32_3
  let v12 : BitVec 32 := Scalar.muli c2_i32_5 v10
  let v13 : BitVec 32 := Scalar.subi v11 v12
  let c1_i32_321 : BitVec 32 := 1#32
  let v386 : BitVec 32 := Scalar.muli v13 c1_i32_321
  let v387 : BitVec 32 := Scalar.addi v385 v386
  v387.toNat
def k0_dev18 (d0 : Dev nD) : Nat :=
  let c0_i32_331 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_330 : BitVec 32 := 16#32
  let v396 : BitVec 32 := Scalar.muli v9 c16_i32_330
  let v397 : BitVec 32 := Scalar.addi c0_i32_331 v396
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v398 : BitVec 32 := Scalar.muli v5 c4_i32_332
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v400 : BitVec 32 := Scalar.muli v8 c1_i32_333
  let v401 : BitVec 32 := Scalar.addi v399 v400
  v401.toNat
def k0_dev19 (d0 : Dev nD) : Nat :=
  let c0_i32_361 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_360 : BitVec 32 := 16#32
  let v431 : BitVec 32 := Scalar.muli v9 c16_i32_360
  let v432 : BitVec 32 := Scalar.addi c0_i32_361 v431
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v433 : BitVec 32 := Scalar.muli v5 c4_i32_362
  let v434 : BitVec 32 := Scalar.addi v432 v433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v435 : BitVec 32 := Scalar.muli v8 c1_i32_363
  let v436 : BitVec 32 := Scalar.addi v434 v435
  v436.toNat
def k0_dev20 (d0 : Dev nD) : Nat :=
  let c0_i32_393 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_392 : BitVec 32 := 16#32
  let v467 : BitVec 32 := Scalar.muli v2 c16_i32_392
  let v468 : BitVec 32 := Scalar.addi c0_i32_393 v467
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_394 : BitVec 32 := 4#32
  let v469 : BitVec 32 := Scalar.muli v5 c4_i32_394
  let v470 : BitVec 32 := Scalar.addi v468 v469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_3 : BitVec 32 := 2#32
  let v10 : BitVec 32 := Scalar.remsi v8 c2_i32_3
  let v12 : BitVec 32 := Scalar.muli c2_i32_5 v10
  let v13 : BitVec 32 := Scalar.subi v11 v12
  let c1_i32_395 : BitVec 32 := 1#32
  let v471 : BitVec 32 := Scalar.muli v13 c1_i32_395
  let v472 : BitVec 32 := Scalar.addi v470 v471
  v472.toNat
def k0_off7 (d0 : Dev nD) (c1_i32_407 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v490 : BitVec 32 := Scalar.subi v5 c1_i32_407
  let c4_i32_408 : BitVec 32 := 4#32
  let v491 : BitVec 32 := Scalar.addi v490 c4_i32_408
  let c4_i32_409 : BitVec 32 := 4#32
  let v492 : BitVec 32 := Scalar.remsi v491 c4_i32_409
  let c1024_i32_410 : BitVec 32 := 1024#32
  let v493 : BitVec 32 := Scalar.muli v492 c1024_i32_410
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c2_i32_439 : BitVec 32 := 2#32
  let v521 : BitVec 32 := Scalar.muli v9 c2_i32_439
  let c256_i32_440 : BitVec 32 := 256#32
  let v522 : BitVec 32 := Scalar.muli v521 c256_i32_440
  let v523 : BitVec 32 := Scalar.addi v493 v522
  let c1_i32_438 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v520 : BitVec 32 := Scalar.subi c1_i32_438 v10
  let c256_i32_441 : BitVec 32 := 256#32
  let v524 : BitVec 32 := Scalar.muli v520 c256_i32_441
  let v525 : BitVec 32 := Scalar.addi v523 v524
  let v526 : Index := Scalar.indexCast v525
  let c0_442 : Index := 0#32
  ![v526.toNat, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S4096x2048 : Shape := ⟨2, ![4096, 2048]⟩

abbrev nBuf : Space → Nat
  | .hbm => 1
  | .vmem => 0
  | .smem => 0
  | _ => 0

abbrev bufTy : (tb : Table) → Fin (tcTables nBuf tb) → BufTy
  | .hbm, ⟨0, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The mesh, the buffers and what they come to hold

The device `c = 16·x + 4·y + z` of the mesh `x = 2, y = 4, z = 4` exchanges data with five others: the three at the
other places of the `y` axis (`yp`, `ym`), the one whose `z` differs in the last bit (`zp`) and the one whose `x`
differs (`xp`). This module names those devices, the kernel's buffers and the parts of them that the copies move,
and gives in closed form what each buffer holds once it is full: `comm X c` for the chunks that arrive along `y`,
the same function at a neighbour for what arrives from that neighbour, and `full X c` for the result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.Reshard

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI

variable {F : FTy → Type}

/-! ## Devices -/

/-- The device of a given number. -/
def devAt (n : ℕ) : Dev nD := ⟨n % 32, Nat.mod_lt _ (by omega)⟩

/-- The device `d` places further along `y`, cyclically. -/
def yp (d : ℕ) (c : Dev nD) : Dev nD := devAt (16 * (c.val / 16) + 4 * ((c.val / 4 % 4 + d) % 4) + c.val % 4)
/-- The device `d ≤ 4` places back along `y`, cyclically. -/
def ym (d : ℕ) (c : Dev nD) : Dev nD := devAt (16 * (c.val / 16) + 4 * ((c.val / 4 % 4 + 4 - d) % 4) + c.val % 4)
/-- The neighbour along `z`: the last bit of `z` flipped. -/
def zp (c : Dev nD) : Dev nD := devAt (c.val + 1 - 2 * (c.val % 2))
/-- The neighbour along `x`. -/
def xp (c : Dev nD) : Dev nD := devAt (c.val + 16)

/-- Going back along `y` and then as far forward leads to the same device; -/
theorem yp_ym : ∀ (k : Fin 3) (c : Dev nD), yp (k.val + 1) (ym (k.val + 1) c) = c := by decide +kernel
/-- so does going forward and then back. -/
theorem ym_yp : ∀ (k : Fin 3) (c : Dev nD), ym (k.val + 1) (yp (k.val + 1) c) = c := by decide +kernel
/-- The `z` neighbour of the `z` neighbour is the device itself, -/
theorem zp_zp : ∀ c : Dev nD, zp (zp c) = c := by decide +kernel
/-- and so is the `x` neighbour of the `x` neighbour. -/
theorem xp_xp : ∀ c : Dev nD, xp (xp c) = c := by decide +kernel
/-- The device across is the same whichever neighbour one goes by. -/
theorem zp_xp : ∀ c : Dev nD, zp (xp c) = xp (zp c) := by decide +kernel

/-! ## Buffers and their parts -/

/-- The device's rows of `x`, staged; -/
abbrev xM : Memref sig .tc .vmem S1024x2048 .f32 := Memref.whole cc0_stg0_0
/-- the result, staged; -/
abbrev oM : Memref sig .tc .vmem S4096x512 .f32 := Memref.whole cc0_stg1_0
/-- the landing buffers of the chunks that come along `y`, -/
abbrev cM : Memref sig .tc .vmem S3x256x512 .f32 := Memref.whole cc0_scratch0
/-- from the `z` neighbour, -/
abbrev zM : Memref sig .tc .vmem S3x256x512 .f32 := Memref.whole cc0_scratch1
/-- from the `x` neighbour, -/
abbrev wM : Memref sig .tc .vmem S3x256x512 .f32 := Memref.whole cc0_scratch2
/-- and, in two halves by way of either neighbour, from the device across both. -/
abbrev dM : Memref sig .tc .vmem S3x256x512 .f32 := Memref.whole cc0_scratch3

/-- Slots lie within a landing buffer, -/
theorem slot_inb : ∀ (k : Fin 3) a, (![k.val, 0, 0] : Fin 3 → ℕ) a + S1x256x512.size a ≤ S3x256x512.size a := by decide
/-- so do their halves, -/
theorem half_inb : ∀ (k : Fin 3) (h : Fin 2) a, (![k.val, 128 * h.val, 0] : Fin 3 → ℕ) a + S1x128x512.size a ≤ S3x256x512.size a := by decide
/-- and the three semaphores of an array lie within it. -/
theorem sem_inb : ∀ (k : Fin 3) a, (![k.val] : Fin 1 → ℕ) a + S1.size a ≤ S3.size a := by decide

/-- Slot `k` of a landing buffer, as a rectangle and as a memref; -/
abbrev slotR (k : Fin 3) : Rect S3x256x512 := Rect.unit (s := S3x256x512) ![k.val, 0, 0] S1x256x512.size (slot_inb k)
/-- Slot `k` of a landing buffer as a memref. -/
abbrev slot (M : Memref sig .tc .vmem S3x256x512 .f32) (k : Fin 3) : Memref sig .tc .vmem S256x512 .f32 :=
  (M.slice (slotR k) (fun _ => rfl)).squeeze S256x512 squeezes_S1x256x512_S256x512
/-- the first (`h = 0`) or last (`h = 1`) 128 rows of it. -/
abbrev halfR (k : Fin 3) (h : Fin 2) : Rect S3x256x512 := Rect.unit (s := S3x256x512) ![k.val, 128 * h.val, 0] S1x128x512.size (half_inb k h)
/-- Half `h` of slot `k` as a memref. -/
abbrev half (M : Memref sig .tc .vmem S3x256x512 .f32) (k : Fin 3) (h : Fin 2) : Memref sig .tc .vmem S128x512 .f32 :=
  (M.slice (halfR k h) (fun _ => rfl)).squeeze S128x512 squeezes_S1x128x512_S128x512

/-- The part of `x` that device `c` sends `k + 1` places along `y`. -/
abbrev partR (c : Dev nD) (k : Fin 3) : Rect S1024x2048 :=
  Rect.unit (s := S1024x2048) (k0_off1 c (BitVec.ofNat 32 (1 + k.val))) S256x512.size (k0_off1_inb c k)
/-- The same part as a memref. -/
abbrev part (c : Dev nD) (k : Fin 3) : Memref sig .tc .vmem S256x512 .f32 := xM.slice (partR c k) (fun _ => rfl)

/-- The `k`-th semaphore of an array of three. -/
abbrev semAt (a : DmaSems sig S3) (k : Fin 3) : DmaSem sig :=
  ((a.slice (Rect.unit (s := S3) ![k.val] S1.size (sem_inb k))).squeeze S_ squeezes_S1_S_).sem

/-! ## Contents -/

/-- An index of the staged `x` by row and column. -/
def at2 (r j : ℕ) : S1024x2048.Idx := ix2 ⟨r % 1024, Nat.mod_lt _ (by omega)⟩ ⟨j % 2048, Nat.mod_lt _ (by omega)⟩

/-- What device `c`'s `y` landing buffer holds once full, `X` giving every device's rows of `x`: in slot `k` the 256 rows
    that `c`'s `x` and the last bit of its `z` name, of the device `k + 1` places back, in the columns of `c`'s `y`. -/
def comm (X : Dev nD → S1024x2048.Idx → Elt F .f32) (c : Dev nD) : S3x256x512.Idx → Elt F .f32 := fun i =>
  X (ym ((i 0).val + 1) c) (at2 (512 * (c.val / 16) + 256 * (c.val % 2) + (i 1).val) (512 * (c.val / 4 % 4) + (i 2).val))

/-- The device whose rows of `x` the sixteenth part `b` of `c`'s result is taken from: its `y` is `b / 4`, its `x` and the
    last bit of its `z` number the 256 rows within. -/
def srcDev (c : Dev nD) (b : ℕ) : Dev nD :=
  if b / 4 = c.val / 4 % 4 then c else devAt (16 * (b / 2 % 2) + 4 * (b / 4 % 4) + 2 * (c.val % 4 / 2) + b % 2)

/-- The result on device `c`: all rows of `x`, in the columns of `c`'s `y`. -/
def full (X : Dev nD → S1024x2048.Idx → Elt F .f32) (c : Dev nD) : S4096x512.Idx → Elt F .f32 := fun i =>
  X (srcDev c ((i 0).val / 256)) (at2 ((i 0).val % 1024) (512 * (c.val / 4 % 4) + (i 1).val))

end Cert.Reshard

end
-- ==== Proof.Values.lean ====
/-
# Where the kernel's accesses fall and what they read and write

The offsets and target devices of the kernel in closed form; the sub-rectangles of a landing buffer as a partition of
it; what a copy along `y` carries; and what each store adds to the result (`good`: which of its sixteen parts of 256
rows already hold the result).
-/
module

public import proofs.«01_k».proof.Proof.Mesh

@[expose] public section

noncomputable section

namespace Cert.Reshard

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI

variable {F : FTy → Type}

/-! ## Target devices -/

/-- The target device of signal 1. -/
theorem dev1_eq : ∀ c : Dev nD, (⟨k0_dev1 c, k0_dev1_lt c⟩ : Dev nD) = ym 3 c := by decide +kernel
/-- The target device of signal 2. -/
theorem dev2_eq : ∀ c : Dev nD, (⟨k0_dev2 c, k0_dev2_lt c⟩ : Dev nD) = ym 2 c := by decide +kernel
/-- The target device of signal 3. -/
theorem dev3_eq : ∀ c : Dev nD, (⟨k0_dev3 c, k0_dev3_lt c⟩ : Dev nD) = ym 1 c := by decide +kernel
/-- The target device of signal 4. -/
theorem dev4_eq : ∀ c : Dev nD, (⟨k0_dev4 c, k0_dev4_lt c⟩ : Dev nD) = zp c := by decide +kernel
/-- The target device of signal 5. -/
theorem dev5_eq : ∀ c : Dev nD, (⟨k0_dev5 c, k0_dev5_lt c⟩ : Dev nD) = xp c := by decide +kernel
/-- The target device of copy 1. -/
theorem dev6_eq : ∀ c : Dev nD, (⟨k0_dev6 c, k0_dev6_lt c⟩ : Dev nD) = yp 1 c := by decide +kernel
/-- The target device of copy 2. -/
theorem dev7_eq : ∀ c : Dev nD, (⟨k0_dev7 c, k0_dev7_lt c⟩ : Dev nD) = yp 2 c := by decide +kernel
/-- The target device of copy 3. -/
theorem dev8_eq : ∀ c : Dev nD, (⟨k0_dev8 c, k0_dev8_lt c⟩ : Dev nD) = yp 3 c := by decide +kernel
/-- The target device of copy 4. -/
theorem dev9_eq : ∀ c : Dev nD, (⟨k0_dev9 c, k0_dev9_lt c⟩ : Dev nD) = zp c := by decide +kernel
/-- The target device of copy 5. -/
theorem dev10_eq : ∀ c : Dev nD, (⟨k0_dev10 c, k0_dev10_lt c⟩ : Dev nD) = xp c := by decide +kernel
/-- The target device of copy 6. -/
theorem dev11_eq : ∀ c : Dev nD, (⟨k0_dev11 c, k0_dev11_lt c⟩ : Dev nD) = xp c := by decide +kernel
/-- The target device of copy 7. -/
theorem dev12_eq : ∀ c : Dev nD, (⟨k0_dev12 c, k0_dev12_lt c⟩ : Dev nD) = zp c := by decide +kernel
/-- The target device of copy 8. -/
theorem dev13_eq : ∀ c : Dev nD, (⟨k0_dev13 c, k0_dev13_lt c⟩ : Dev nD) = zp c := by decide +kernel
/-- The target device of copy 9. -/
theorem dev14_eq : ∀ c : Dev nD, (⟨k0_dev14 c, k0_dev14_lt c⟩ : Dev nD) = xp c := by decide +kernel
/-- The target device of copy 10. -/
theorem dev15_eq : ∀ c : Dev nD, (⟨k0_dev15 c, k0_dev15_lt c⟩ : Dev nD) = xp c := by decide +kernel
/-- The target device of copy 11. -/
theorem dev16_eq : ∀ c : Dev nD, (⟨k0_dev16 c, k0_dev16_lt c⟩ : Dev nD) = zp c := by decide +kernel
/-- The target device of copy 12. -/
theorem dev17_eq : ∀ c : Dev nD, (⟨k0_dev17 c, k0_dev17_lt c⟩ : Dev nD) = zp c := by decide +kernel
/-- The target device of copy 13. -/
theorem dev18_eq : ∀ c : Dev nD, (⟨k0_dev18 c, k0_dev18_lt c⟩ : Dev nD) = xp c := by decide +kernel
/-- The target device of copy 14. -/
theorem dev19_eq : ∀ c : Dev nD, (⟨k0_dev19 c, k0_dev19_lt c⟩ : Dev nD) = xp c := by decide +kernel
/-- The target device of copy 15. -/
theorem dev20_eq : ∀ c : Dev nD, (⟨k0_dev20 c, k0_dev20_lt c⟩ : Dev nD) = zp c := by decide +kernel

/-! ## Offsets -/

/-- Which sixteenth of the result the chunk in slot `k` of `e`'s `y` landing buffer is. -/
def blk (e : Dev nD) (k : Fin 3) : ℕ := 4 * ((e.val / 4 % 4 + 3 - k.val) % 4) + 2 * (e.val / 16) + e.val % 2

/-- The part of `x` that a copy along `y` carries begins at the rows that the target's `x` and `z` name and the columns of its `y`. -/
theorem off1_at : ∀ (c : Dev nD) (k : Fin 3), k0_off1 c (BitVec.ofNat 32 (1 + k.val))
    = ![512 * ((yp (k.val + 1) c).val / 16) + 256 * ((yp (k.val + 1) c).val % 2), 512 * ((yp (k.val + 1) c).val / 4 % 4)] := by decide +kernel
/-- A device's own columns of `x`, -/
theorem off2_at : ∀ c : Dev nD, k0_off2 c = ![0, 512 * (c.val / 4 % 4)] := by decide +kernel
/-- and the rows of the result they are stored in. -/
theorem off3_at : ∀ c : Dev nD, k0_off3 c = ![1024 * (c.val / 4 % 4), 0] := by decide +kernel
/-- The rows of the result that the chunk from along `y` is stored in, -/
theorem off4_at : ∀ (c : Dev nD) (k : Fin 3), k0_off4 c (BitVec.ofNat 32 (1 + k.val)) = ![256 * blk c k, 0] := by decide +kernel
/-- that from the `z` neighbour, -/
theorem off5_at : ∀ (c : Dev nD) (k : Fin 3), k0_off5 c (BitVec.ofNat 32 (1 + k.val)) = ![256 * blk (zp c) k, 0] := by decide +kernel
/-- that from the `x` neighbour, -/
theorem off6_at : ∀ (c : Dev nD) (k : Fin 3), k0_off6 c (BitVec.ofNat 32 (1 + k.val)) = ![256 * blk (xp c) k, 0] := by decide +kernel
/-- and that from across. -/
theorem off7_at : ∀ (c : Dev nD) (k : Fin 3), k0_off7 c (BitVec.ofNat 32 (1 + k.val)) = ![256 * blk (xp (zp c)) k, 0] := by decide +kernel

/-- `e` is one of the four devices at `c`'s place along `y` whose chunks the result on `c` is made of: the device each
    chunk of `e` came from is the one the result takes that sixteenth from. -/
def Quad (c e : Dev nD) : Prop :=
  e.val / 4 % 4 = c.val / 4 % 4 ∧ ∀ k : Fin 3, blk e k < 16 ∧ srcDev c (blk e k) = ym (k.val + 1) e
    ∧ 512 * (e.val / 16) + 256 * (e.val % 2) = 256 * (blk e k % 4)
instance (c e : Dev nD) : Decidable (Quad c e) := by unfold Quad; infer_instance

/-- Such are the device itself, -/
theorem quad_self : ∀ c : Dev nD, Quad c c := by decide +kernel
/-- its `z` neighbour, -/
theorem quad_zp : ∀ c : Dev nD, Quad c (zp c) := by decide +kernel
/-- its `x` neighbour, -/
theorem quad_xp : ∀ c : Dev nD, Quad c (xp c) := by decide +kernel
/-- and the device across. -/
theorem quad_xz : ∀ c : Dev nD, Quad c (xp (zp c)) := by decide +kernel

/-! ## A landing buffer as its slots, a slot as its halves -/

section Parts
variable (M : Memref sig .tc .vmem S3x256x512 .f32)

/-- The elements of a slot are those of its rectangle; -/
theorem slot_set (k : Fin 3) : (slot M k).view.set = (slotR k).set.map M.view.emb := by
  rw [View.set_reshape, View.set_slice]
/-- likewise those of a half. -/
theorem half_set (k : Fin 3) (h : Fin 2) : (half M k h).view.set = (halfR k h).set.map M.view.emb := by
  rw [View.set_reshape, View.set_slice]

/-- Slot `k` is where the first index is `k`. -/
theorem mem_slotR {k : Fin 3} {i : S3x256x512.Idx} : i ∈ (slotR k).set ↔ (i 0).val = k.val := by
  rw [Rect.mem_set_unit]
  have h1 := (i 1).isLt; have h2 := (i 2).isLt
  constructor
  · intro h; have := h 0; simp at this; omega
  · intro h a; fin_cases a <;> simp at h1 h2 ⊢ <;> omega
/-- Half `h` of it is where, besides, the row is in that half. -/
theorem mem_halfR {k : Fin 3} {h : Fin 2} {i : S3x256x512.Idx} :
    i ∈ (halfR k h).set ↔ (i 0).val = k.val ∧ (i 1).val / 128 = h.val := by
  rw [Rect.mem_set_unit]
  have h1 := (i 1).isLt; have h2 := (i 2).isLt
  constructor
  · intro h; have h0 := h 0; have h1 := h 1; simp at h0 h1; omega
  · rintro ⟨h3, h4⟩ a; fin_cases a <;> simp at h1 h2 ⊢ <;> omega

/-- The three slots make up the buffer, -/
theorem slots_cover : M.view.set = (Finset.univ : Finset (Fin 3)).biUnion fun k => (slot M k).view.set := by
  ext i
  simp only [Finset.mem_biUnion, Finset.mem_univ, true_and]
  constructor
  · intro hi
    obtain ⟨x, -, rfl⟩ := Finset.mem_map.mp hi
    exact ⟨x 0, (slot_set M (x 0)).symm ▸ Finset.mem_map_of_mem _ (mem_slotR.mpr rfl)⟩
  · rintro ⟨k, hk⟩
    rw [slot_set] at hk
    obtain ⟨x, -, rfl⟩ := Finset.mem_map.mp hk
    exact View.emb_mem_set _ _
/-- no two of them with an element in common; -/
theorem slots_disjoint {k k' : Fin 3} (h : k ≠ k') : Disjoint (slot M k).view.set (slot M k').view.set := by
  rw [slot_set, slot_set, Finset.disjoint_map]
  exact Finset.disjoint_left.mpr fun i hi hi' => h (Fin.ext ((mem_slotR.mp hi).symm.trans (mem_slotR.mp hi')))
/-- and a slot is its two halves, -/
theorem halves_cover (k : Fin 3) : (slot M k).view.set = (half M k 0).view.set ∪ (half M k 1).view.set := by
  rw [slot_set, half_set, half_set, ← Finset.map_union]
  congr 1
  ext i
  rw [Finset.mem_union, mem_slotR, mem_halfR, mem_halfR]
  have h1 : (i 1).val < 256 := (i 1).isLt
  show _ ↔ (_ ∧ _ = 0) ∨ (_ ∧ _ = 1)
  omega
/-- which have no element in common. -/
theorem halves_disjoint (k : Fin 3) : Disjoint (half M k 0).view.set (half M k 1).view.set := by
  rw [half_set, half_set, Finset.disjoint_map]
  refine Finset.disjoint_left.mpr fun i hi hi' => ?_
  have h0 := (mem_halfR.mp hi).2; have h1 := (mem_halfR.mp hi').2
  rw [h0] at h1; exact absurd h1 (by decide)

end Parts

/-! ## What the copies along `y` carry -/

/-- An index with row `r` and column `j` is `at2 r j`. -/
theorem at2_eq {r j : ℕ} {i : S1024x2048.Idx} (hr : (i 0).val = r) (hj : (i 1).val = j) : at2 r j = i := by
  have h0 := (i 0).isLt; have h1 := (i 1).isLt
  rw [eq_ix2 i]
  unfold at2
  congr 1 <;> apply Fin.ext <;> simp at h0 h1 ⊢ <;> omega

/-- The part of `x` sent `k + 1` places along `y` reads as slot `k` of the receiver's full landing buffer. -/
theorem part_read (X : Dev nD → S1024x2048.Idx → Elt F .f32) (c : Dev nD) (k : Fin 3) :
    (part c k).view.read (Elt F) (X c) = (slot cM k).view.read (Elt F) (comm X (yp (k.val + 1) c)) := by
  funext p
  obtain ⟨a, b, rfl⟩ : ∃ (a : Fin 256) (b : Fin 512), p = ix2 a b := ⟨p 0, p 1, eq_ix2 p⟩
  refine Eq.trans ?_ (congrArg (fun q => comm X (yp (k.val + 1) c) ((slotR k).emb q)) (reshapeEquiv_ix2_1ab _ a b)).symm
  show X c ((partR c k).emb (ix2 a b)) = comm X (yp (k.val + 1) c) ((slotR k).emb (ix3 (⟨0, Nat.one_pos⟩ : Fin 1) a b))
  unfold comm
  have h0 : ((slotR k).emb (ix3 (⟨0, Nat.one_pos⟩ : Fin 1) a b) 0).val = k.val := by simp [Rect.emb_apply]
  have h1 : ((slotR k).emb (ix3 (⟨0, Nat.one_pos⟩ : Fin 1) a b) 1).val = a.val := by simp [Rect.emb_apply]
  have h2 : ((slotR k).emb (ix3 (⟨0, Nat.one_pos⟩ : Fin 1) a b) 2).val = b.val := by simp [Rect.emb_apply]
  rw [h0, h1, h2, ym_yp, at2_eq (i := (partR c k).emb (ix2 a b))]
  · rw [Rect.emb_apply]; simp only [Rect.off_unit, Rect.stride_unit, off1_at, one_mul]; rfl
  · rw [Rect.emb_apply]; simp only [Rect.off_unit, Rect.stride_unit, off1_at, one_mul]; rfl

/-! ## What the stores add to the result -/

/-- The sixteenths of the result listed in `D` hold what they should. -/
def good (X : Dev nD → S1024x2048.Idx → Elt F .f32) (c : Dev nD) (D : List ℕ) (f : S4096x512.Idx → Elt F .f32) : Prop :=
  ∀ i : S4096x512.Idx, (i 0).val / 256 ∈ D → f i = full X c i

/-- A store through a rectangle of the result, of values that are the result's there, adds the sixteenths inside it. -/
theorem good_store {X : Dev nD → S1024x2048.Idx → Elt F .f32} {c : Dev nD} {D D' : List ℕ} {f : S4096x512.Idx → Elt F .f32}
    (h : good X c D f) (r : Rect S4096x512) (w : r.shape.Idx → Elt F .f32) (hw : ∀ p, w p = full X c (r.emb p))
    (hr : ∀ i : S4096x512.Idx, (i 0).val / 256 ∈ D' → i ∈ r.set ∨ (i 0).val / 256 ∈ D) :
    good X c D' ((oM.access r).write (Elt F) f w Finset.univ) := by
  intro i hi
  by_cases hir : i ∈ r.set
  · obtain ⟨p, rfl⟩ := r.exists_idx_of_mem hir
    refine (View.write_emb_of_mem (v := oM.access r) (x := p) f w (Finset.mem_univ p)).trans ?_
    exact hw p
  · rw [View.write_of_not_mem]
    · exact h i ((hr i hi).resolve_left hir)
    · intro hmem
      refine hir ?_
      obtain ⟨p, -, hp⟩ := Finset.mem_map.mp hmem
      have hp' : r.emb p = i := hp
      rw [← hp']; exact r.idx_mem p

/-- The store of slot `k` of a landing buffer that holds `e`'s chunks, at the chunk's sixteenth. -/
theorem good_chunk {X : Dev nD → S1024x2048.Idx → Elt F .f32} {c : Dev nD} {D : List ℕ} {f : S4096x512.Idx → Elt F .f32}
    (h : good X c D f) (e : Dev nD) (he : Quad c e) (k : Fin 3) (off : Fin 2 → ℕ) (inb : ∀ a, off a + S256x512.size a ≤ S4096x512.size a)
    (hoff : off = ![256 * blk e k, 0]) :
    good X c (blk e k :: D) ((oM.access (Rect.unit (s := S4096x512) off S256x512.size inb)).write (Elt F) f
      (shapeCast S256x512 (fun p => comm X e ((slotR k).emb p)) shapeCasts_S1x256x512_S256x512) Finset.univ) := by
  subst hoff
  obtain ⟨hy, hk⟩ := he
  obtain ⟨hlt, hsrc, hrow⟩ := hk k
  refine good_store h _ _ (fun p => ?_) fun i hi => ?_
  · obtain ⟨a, b, rfl⟩ : ∃ (a : Fin 256) (b : Fin 512), p = ix2 a b := ⟨p 0, p 1, eq_ix2 p⟩
    refine (congrArg (fun q => comm X e ((slotR k).emb q)) (reshapeEquiv_ix2_1ab _ a b)).trans ?_
    have ha : a.val < 256 := a.isLt
    have h0 : ((slotR k).emb (ix3 (⟨0, Nat.one_pos⟩ : Fin 1) a b) 0).val = k.val := by simp [Rect.emb_apply]
    have h1 : ((slotR k).emb (ix3 (⟨0, Nat.one_pos⟩ : Fin 1) a b) 1).val = a.val := by simp [Rect.emb_apply]
    have h2 : ((slotR k).emb (ix3 (⟨0, Nat.one_pos⟩ : Fin 1) a b) 2).val = b.val := by simp [Rect.emb_apply]
    have g0 : ((Rect.unit (s := S4096x512) ![256 * blk e k, 0] S256x512.size inb).emb (ix2 a b) 0).val = 256 * blk e k + a.val := by
      simp [Rect.emb_apply]
    have g1 : ((Rect.unit (s := S4096x512) ![256 * blk e k, 0] S256x512.size inb).emb (ix2 a b) 1).val = b.val := by
      simp [Rect.emb_apply]
    unfold comm full
    rw [h0, h1, h2, g0, g1, show (256 * blk e k + a.val) / 256 = blk e k by omega, hsrc, hy]
    congr 2
    omega
  · rcases List.mem_cons.mp hi with hi | hi
    · left
      have h1 : (i 1).val < 512 := (i 1).isLt
      rw [Rect.mem_set_unit]
      intro a; fin_cases a <;> simp <;> omega
    · exact Or.inr hi

/-- The store of the device's own rows. -/
theorem good_own (X : Dev nD → S1024x2048.Idx → Elt F .f32) (c : Dev nD) (f : S4096x512.Idx → Elt F .f32)
    (w : Vec F S1024x512 .f32) (hw : w = fun p => X c ((Rect.unit (s := S1024x2048) (k0_off2 c) S1024x512.size (k0_off2_inb c)).emb p)) :
    good X c ((List.range 4).map fun j => 4 * (c.val / 4 % 4) + j)
      ((oM.access (Rect.unit (s := S4096x512) (k0_off3 c) S1024x512.size (k0_off3_inb c))).write (Elt F) f
        (shapeCast S1024x512 w shapeCasts_S1024x512_S1024x512) Finset.univ) := by
  subst hw
  have hc : c.val < 32 := c.isLt
  refine good_store (D := []) (fun i hi => absurd hi List.not_mem_nil) _ _ (fun p => ?_) fun i hi => Or.inl ?_
  · obtain ⟨a, b, rfl⟩ : ∃ (a : Fin 1024) (b : Fin 512), p = ix2 a b := ⟨p 0, p 1, eq_ix2 p⟩
    refine (congrFun (shapeCast_self (fun q : S1024x512.Idx => X c ((Rect.unit (s := S1024x2048) (k0_off2 c) S1024x512.size
      (k0_off2_inb c)).emb q)) _) (ix2 a b)).trans ?_
    have ha : a.val < 1024 := a.isLt
    have g0 : ((Rect.unit (s := S4096x512) (k0_off3 c) S1024x512.size (k0_off3_inb c)).emb (ix2 a b) 0).val = 1024 * (c.val / 4 % 4) + a.val := by
      simp [Rect.emb_apply, off3_at]
    have g1 : ((Rect.unit (s := S4096x512) (k0_off3 c) S1024x512.size (k0_off3_inb c)).emb (ix2 a b) 1).val = b.val := by
      simp [Rect.emb_apply, off3_at]
    unfold full
    rw [g0, g1, srcDev, if_pos (by omega)]
    refine congrArg (X c) (at2_eq ?_ ?_).symm
    · have : ((Rect.unit (s := S1024x2048) (k0_off2 c) S1024x512.size (k0_off2_inb c)).emb (ix2 a b) 0).val = a.val := by
        simp [Rect.emb_apply, off2_at]
      rw [this]; omega
    · have : ((Rect.unit (s := S1024x2048) (k0_off2 c) S1024x512.size (k0_off2_inb c)).emb (ix2 a b) 1).val = 512 * (c.val / 4 % 4) + b.val := by
        simp [Rect.emb_apply, off2_at]
      rw [this]
  · have h1 : (i 1).val < 512 := (i 1).isLt
    obtain ⟨j, hj, hij⟩ := List.mem_map.mp hi
    have hj := List.mem_range.mp hj
    rw [Rect.mem_set_unit]
    intro a; fin_cases a <;> simp [off3_at] <;> omega

/-- The sixteenths stored in the course of the kernel, last first. -/
def allBlks (c : Dev nD) : List ℕ :=
  (List.finRange 3).reverse.map (blk (xp (zp c)))
    ++ (List.finRange 3).reverse.flatMap (fun k => [blk (xp c) k, blk (zp c) k, blk c k])
    ++ (List.range 4).map fun j => 4 * (c.val / 4 % 4) + j

/-- Every one of the sixteen parts of the result is stored. -/
theorem allBlks_all : ∀ (c : Dev nD) (b : Fin 16), b.val ∈ allBlks c := by decide +kernel

/-- All sixteen stored, the buffer holds the result. -/
theorem good_all {X : Dev nD → S1024x2048.Idx → Elt F .f32} {c : Dev nD} {f : S4096x512.Idx → Elt F .f32}
    (h : good X c (allBlks c) f) : f = full X c := by
  funext i
  have h0 : (i 0).val < 4096 := (i 0).isLt
  exact h i (allBlks_all c ⟨(i 0).val / 256, by omega⟩)

end Cert.Reshard

end
-- ==== Proof.Plan.lean ====
/-
# The protocol: who may touch what, when

Every semaphore of the kernel becomes a cell of the rounds library with one round. A copy has a cell at its sender and
one at its receiver: the sender's gets back the share of the source that was lent to the copy, the receiver's the
landing place holding what was sent. The barrier cell has five duties, one per neighbour, and what a neighbour pays with
is the landing places it gives this device leave to write into.

What a device owes is a list of items, worked off in program order. A wait is allowed when everything still owed lies
above the awaited cell; the levels are: barrier 1, chunks along `y` 2, chunk `k` from `z` or `x` neighbours `3 + k`,
the forwarded halves 10, cells that only count the device's own sends 0.
-/
module

public import proofs.«01_k».proof.Proof.Values

@[expose] public section

noncomputable section

namespace Cert.Reshard

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The rounds library's resources, with five kinds of duty; -/
abbrev UB : Type := URounds (GSem nD τ sig) (Fin 5)
/-- these beside the pipeline's. -/
abbrev UU : Type := UR sig nD τ × UB
local notation "𝕄" => MT nD τ sig Unit (Elt F) ℕ UU ℕ

/-- The pipeline's resources within them, -/
abbrev EP : Emb (UR sig nD τ) (MT nD τ sig Unit (Elt F) ℕ UU ℕ) := embL
/-- and those of the rounds. -/
abbrev ER : Emb UB (MT nD τ sig Unit (Elt F) ℕ UU ℕ) := embR

/-! ## Memory held -/

section Held
variable {sh : Shape} {e : EltTy}

/-- Device `c` holds the elements of `M` at share `q`; its buffer's contents are `f` there. -/
def held (c : Dev nD) (M : Memref sig .tc .vmem sh e) (q : PosShare TreeShare) (f : Buf (Elt F) (M.view.loc (c : Thread nD τ))) : sProp 𝕄 :=
  M.view.loc (c : Thread nD τ) ↦[M.view.set]{q} f
/-- Device `c`'s memref `M` may be written: it is held in full, with whatever it contains. -/
def free (c : Dev nD) (M : Memref sig .tc .vmem sh e) : sProp 𝕄 := iprop(∃ f, held (F := F) c M fullShare f)

instance held_storable (c : Dev nD) (M : Memref sig .tc .vmem sh e) (q) (f) : BI.Storable (upEmb : UEmb _ 𝕄) (held (F := F) c M q f) := by
  unfold held; infer_instance
instance free_storable (c : Dev nD) (M : Memref sig .tc .vmem sh e) : BI.Storable (upEmb : UEmb _ 𝕄) (free (F := F) c M) := by
  unfold free; infer_instance

end Held

/-! ## Cells -/

/-- The `k`-th semaphore of the `j`-th of the kernel's ten semaphore arrays: arrays `2 s` and `2 s + 1` count what was
    sent and received in the copies of kind `s` (0 along `y`; 1, 2 whole chunks to the `z` and `x` neighbours; 3, 4 halves
    of the chunks got from the `x` and `z` neighbours, forwarded to the `z` and `x` neighbours). -/
def semOf (j : Fin 10) (k : Fin 3) : DmaSem sig := ⟨2 + 3 * j.val + k.val, by show _ < 32; omega⟩
/-- The barrier semaphore. -/
abbrev barS : Sem sig := (SemArray.scalar (sig.barrier 0 rfl) : Sems sig S_).sem
/-- Device `c`'s cell of the `k`-th semaphore of array `j`, -/
abbrev cell (c : Dev nD) (j : Fin 10) (k : Fin 3) : GSem nD τ sig := ((c : Thread nD τ), .dma (semOf j k))
/-- and its barrier cell. -/
abbrev barCell (c : Dev nD) : GSem nD τ sig := ((c : Thread nD τ), .reg barS)

/-- Which array and slot a semaphore is. -/
def slotOf (q : DmaSem sig) : Option (Fin 10 × Fin 3) :=
  if h : 2 ≤ q.val then some (⟨(q.val - 2) / 3, by have : q.val < 32 := q.isLt; omega⟩, ⟨(q.val - 2) % 3, Nat.mod_lt _ (by omega)⟩) else none
/-- `slotOf` undoes `semOf`. -/
theorem slotOf_semOf : ∀ (j : Fin 10) (k : Fin 3), slotOf (semOf j k) = some (j, k) := by decide

/-- The sending and the receiving array of copies of kind `s`. -/
def sj (s : Fin 5) : Fin 10 := ⟨2 * s.val, by omega⟩
/-- The receiving array of copies of kind `s`. -/
def rj (s : Fin 5) : Fin 10 := ⟨2 * s.val + 1, by omega⟩
/-- The device the `k`-th copy of kind `s` goes to. -/
def peer (s : Fin 5) (k : Fin 3) (c : Dev nD) : Dev nD := match s with
  | 0 => yp (k.val + 1) c | 1 => zp c | 2 => xp c | 3 => zp c | 4 => xp c

/-- What a whole chunk and half a chunk count for. -/
def N256 : ℕ := (slot cM 0).view.dmaCredit
/-- What half a chunk counts for. -/
def N128 : ℕ := (half cM 0 0).view.dmaCredit
/-- What a copy counted on array `j` counts for: arrays 0 to 5 count whole chunks, the others halves. -/
def amt (j : Fin 10) : ℕ := if j.val < 6 then N256 else N128
/-- It is positive. -/
theorem amt_pos (j : Fin 10) : 0 < amt j := by
  unfold amt; split
  · exact View.dmaCredit_pos _ (by decide)
  · exact View.dmaCredit_pos _ (by decide)

/-! ## What the cells hand over -/

variable (X : Dev nD → S1024x2048.Idx → Elt F .f32)

/-- The share of the staged `x` that the `k`-th copy along `y` is lent. -/
def qx (k : Fin 3) : PosShare TreeShare := match k with
  | 0 => fullShare.right.left | 1 => fullShare.right.right.left | 2 => fullShare.right.right.right

/-- What cell `(j, k)` hands device `c`. -/
def pay (c : Dev nD) (j : Fin 10) (k : Fin 3) : sProp 𝕄 := match j with
  | 0 => held c (part c k) (qx k) (X c)
  | 1 => held c (slot cM k) fullShare (comm X c)
  | 2 => held c (slot cM k) fullShare.left (comm X c)
  | 3 => held c (slot zM k) fullShare (comm X (zp c))
  | 4 => held c (slot cM k) fullShare.right.left (comm X c)
  | 5 => held c (slot wM k) fullShare (comm X (xp c))
  | 6 => held c (half wM k 0) fullShare.left (comm X (xp c))
  | 7 => held c (half dM k 0) fullShare (comm X (xp (zp c)))
  | 8 => held c (half zM k 1) fullShare.left (comm X (zp c))
  | 9 => held c (half dM k 1) fullShare (comm X (xp (zp c)))

/-- What the duty `d` of device `c`'s barrier hands it: leave to write into one neighbour's landing places. -/
def barPay (c : Dev nD) (d : Fin 5) : sProp 𝕄 := match d with
  | 0 => free (F := F) (yp 1 c) (slot cM 0)
  | 1 => free (F := F) (yp 2 c) (slot cM 1)
  | 2 => free (F := F) (yp 3 c) (slot cM 2)
  | 3 => bigSep Finset.univ fun k : Fin 3 => iprop(free (F := F) (zp c) (slot zM k) ∗ free (F := F) (zp c) (half dM k 0))
  | 4 => bigSep Finset.univ fun k : Fin 3 => iprop(free (F := F) (xp c) (slot wM k) ∗ free (F := F) (xp c) (half dM k 1))

/-- The device that pays duty `d` of `c`'s barrier, seen from the payer: the device it pays. -/
def bpeer (d : Fin 5) (c : Dev nD) : Dev nD := match d with
  | 0 => ym 1 c | 1 => ym 2 c | 2 => ym 3 c | 3 => zp c | 4 => xp c

/-- One round: five duties of one unit each on the barrier cell, one duty of the copy's amount on every other cell. -/
def sched : Rounds.Schedule (GSem nD τ sig) (Fin 5) 𝕄 where
  duties g r := if r = 0 then (match g.2 with
    | .reg _ => Finset.univ
    | .dma q => match slotOf q with | some _ => {0} | none => ∅) else ∅
  unitless _ := False
  amount g _ _ := match g.2 with
    | .reg _ => 1
    | .dma q => match slotOf q with | some (j, _) => amt j | none => 1
  payload g _ d := match g.2 with
    | .reg _ => barPay g.1.1 d
    | .dma q => match slotOf q with | some (j, k) => pay X g.1.1 j k | none => iprop(emp)
  amount_pos g _ _ _ := by
    split
    · exact Nat.one_pos
    · split
      · exact amt_pos _
      · exact Nat.one_pos

instance pay_storable (c : Dev nD) (j : Fin 10) (k : Fin 3) : BI.Storable (upEmb : UEmb _ 𝕄) (pay X c j k) := by
  unfold pay; split <;> infer_instance
instance barPay_storable (c : Dev nD) (d : Fin 5) : BI.Storable (upEmb : UEmb _ 𝕄) (barPay (F := F) c d) := by
  unfold barPay; split <;> infer_instance
instance sched_storable (g : GSem nD τ sig) (r : ℕ) (d : Fin 5) : BI.Storable (upEmb : UEmb _ 𝕄) ((sched X).payload g r d) := by
  dsimp only [sched]
  split
  · infer_instance
  · split <;> infer_instance

section Sched
variable (c : Dev nD) (j : Fin 10) (k : Fin 3)

/-- A copy's cell has one duty, -/
theorem duties_cell : (sched X).duties (cell c j k) 0 = {0} := by
  dsimp only [sched]; rw [if_pos rfl, slotOf_semOf]
/-- the barrier all five, -/
theorem duties_bar : (sched X).duties (barCell c) 0 = Finset.univ := by
  dsimp only [sched]; rw [if_pos rfl]
/-- and there is none after the first round. -/
theorem duties_later (g : GSem nD τ sig) : ∀ r, 1 ≤ r → (sched X).duties g r = ∅ :=
  fun r hr => if_neg (by omega)
/-- A copy's duty counts for the copy's amount, -/
theorem amount_cell (d : Fin 5) : (sched X).amount (cell c j k) 0 d = amt j := by dsimp only [sched]; rw [slotOf_semOf]
/-- a barrier duty for one unit. -/
theorem amount_bar (d : Fin 5) : (sched X).amount (barCell c) 0 d = 1 := rfl
/-- A copy's duty hands over what `pay` says, -/
theorem payload_cell (d : Fin 5) : (sched X).payload (cell c j k) 0 d = pay X c j k := by dsimp only [sched]; rw [slotOf_semOf]
/-- a barrier duty what `barPay` says. -/
theorem payload_bar (d : Fin 5) : (sched X).payload (barCell c) 0 d = barPay c d := rfl
/-- A copy's cell expects the copy's amount, -/
theorem expect_cell : (sched X).expect (cell c j k) 0 = amt j := by
  unfold Schedule.expect Schedule.amountOf; rw [duties_cell, Finset.sum_singleton, amount_cell]
/-- the barrier five units. -/
theorem expect_bar : (sched X).expect (barCell c) 0 = 5 := by
  unfold Schedule.expect Schedule.amountOf; rw [duties_bar]; rfl
/-- All that a copy's cell hands over, -/
theorem rest_cell : bigSep ((sched X).duties (cell c j k) 0 \ ∅) (fun d => (sched X).payload (cell c j k) 0 d) = pay X c j k := by
  rw [Finset.sdiff_empty, duties_cell, bigSep_singleton, payload_cell]
/-- and all that the barrier does. -/
theorem rest_bar : bigSep ((sched X).duties (barCell c) 0 \ ∅) (fun d => (sched X).payload (barCell c) 0 d)
    = bigSep Finset.univ (barPay (F := F) c) := by
  rw [Finset.sdiff_empty, duties_bar]; rfl

end Sched

/-! ## What is owed -/

/-- One thing a device does for another: pay a barrier duty, make a copy. -/
inductive Item
  | bar (d : Fin 5)
  | send (s : Fin 5) (k : Fin 3)
  deriving DecidableEq

/-- The cell an item raises, by how much, and that cell's level. -/
def tgt (c : Dev nD) : Item → GSem nD τ sig
  | .bar d => barCell (bpeer d c)
  | .send s k => cell (peer s k c) (rj s) k
/-- How much an item raises its cell by. -/
def units : Item → ℕ
  | .bar _ => 1
  | .send s _ => amt (rj s)
/-- The level of a copy's cell. -/
def levelOf (j : Fin 10) (k : Fin 3) : ℕ := match j with
  | 1 => 2 | 3 => 3 + k.val | 5 => 3 + k.val | 7 => 10 | 9 => 10 | _ => 0
/-- The level of the cell that an item raises. -/
def lev : Item → ℕ
  | .bar _ => 1
  | .send s k => levelOf (rj s) k

/-- What device `c` owes when the items `l` are still to do. -/
def oblig (c : Dev nD) : List Item → CellTallies nD τ sig Unit
  | [] => 0
  | i :: l => oblig c l + tallyAt (tgt c i) () (units i)

/-- The copies of phase `k` in program order, those of the phases from `k` on, and all items. -/
def phaseItems (k : Fin 3) : List Item := [.send 1 k, .send 2 k, .send 4 k, .send 3 k]
/-- The copies of the phases from `k` on. -/
def itemsFrom (k : ℕ) : List Item := ((List.finRange 3).drop k).flatMap phaseItems
/-- Everything that a device does for others, in program order. -/
def allItems : List Item :=
  [.bar 2, .bar 1, .bar 0, .bar 3, .bar 4] ++ ((List.finRange 3).map fun k => .send 0 k) ++ itemsFrom 0

/-- Every semaphore of a core has one level, -/
def L (g : GSem nD τ sig) : Finset Unit := if g.1.2 = .tc then {()} else ∅
/-- which is this one. -/
def lv (g : GSem nD τ sig) (_ : Unit) : ℕ := match g.2 with
  | .reg _ => 1
  | .dma q => match slotOf q with | some (j, k) => levelOf j k | none => 0

/-- Only cores' semaphores have a level, -/
theorem L_of_ne (g : GSem nD τ sig) (h : g.1.2 ≠ .tc) : L g = ∅ := if_neg h
/-- and all of those do. -/
theorem L_tc (c : Dev nD) (sm : SemLoc sig) : L ((c : Thread nD τ), sm) = {()} := if_pos rfl
/-- The level of a copy's cell is as `levelOf` says, -/
theorem lv_cell (c : Dev nD) (j : Fin 10) (k : Fin 3) (u : Unit) : lv (cell c j k) u = levelOf j k := by
  dsimp only [lv]; rw [slotOf_semOf]
/-- and the level of an item's cell as `lev` says. -/
theorem lv_tgt (c : Dev nD) (i : Item) (u : Unit) : lv (tgt c i) u = lev i := by
  cases i with
  | bar d => rfl
  | send s k => exact lv_cell _ _ _ _

/-- A cell to which something is owed is the cell of an item still to do. -/
theorem oblig_pos {c : Dev nD} {g : GSem nD τ sig} {u : Unit} : ∀ {l : List Item}, 0 < oblig c l g u → ∃ i ∈ l, g = tgt c i
  | [], h => absurd h (Nat.lt_irrefl 0)
  | i :: l, h => by
    unfold oblig at h
    rw [Pi.add_apply, Finsupp.add_apply, tallyAt_apply] at h
    by_cases hg : g = tgt c i
    · exact ⟨i, List.mem_cons_self, hg⟩
    · rw [if_neg (fun h' => hg h'.1), Nat.add_zero] at h
      obtain ⟨i', hi', h'⟩ := oblig_pos h
      exact ⟨i', List.mem_cons_of_mem _ hi', h'⟩

/-- Items raise only cores' semaphores. -/
theorem tgt_tc (c : Dev nD) (i : Item) : (tgt c i).1.2 = .tc := by cases i <;> rfl

/-- A device may wait on a semaphore of its own when all it still owes lies above it. -/
theorem mayWait (c : Dev nD) (sm : SemLoc sig) (l : List Item) (h : ∀ i ∈ l, lv ((c : Thread nD τ), sm) () < lev i) :
    (levAts L lv : sProp 𝕄) ⊢ MayWait (c : Thread nD τ) sm () (oblig c l) :=
  MayOwe.of_cut (L := L) (lev := lv) (lv ((c : Thread nD τ), sm) ())
    (fun p hp => by rw [Finset.mem_singleton.mp hp, L_tc]; exact Finset.mem_singleton_self _)
    (fun g u hg => by
      obtain ⟨i, -, rfl⟩ := oblig_pos hg
      unfold L; rw [if_pos (tgt_tc c i)]; exact Finset.mem_singleton_self _)
    (fun p hp => by rw [Finset.mem_singleton.mp hp])
    (fun g u hg => by
      obtain ⟨i, hi, rfl⟩ := oblig_pos hg
      rw [lv_tgt]; exact h i hi)

/-- Device `c` still owes the items `l`. -/
def owesE (c : Dev nD) (l : List Item) : sProp 𝕄 := iprop(∃ W, owes (c : Thread nD τ) (oblig c l) W)

/-! ## The records every device has of every cell -/

/-- The cells of one device: its barrier and its thirty semaphores. -/
abbrev CI : Type := Option (Fin 10 × Fin 3)
/-- The cell of a device that such an index names. -/
def kcell (p : Dev nD × CI) : GSem nD τ sig := match p.2 with
  | none => barCell p.1
  | some (j, k) => cell p.1 j k

/-- The invariants of all cells, under the names `K`, and that each is at round 0. -/
def recs (K : Dev nD × CI → ℕ) : sProp 𝕄 :=
  iprop((bigSep Finset.univ fun p : Dev nD × CI => iprop(cellInv ER (sched X) (K p) (kcell p) ∗ reached ER (kcell p) 0)) ∗ levAts L lv)

instance recs_persistent (K : Dev nD × CI → ℕ) : BI.Persistent (recs X K) := by unfold recs; infer_instance

/-- The record of one cell. -/
theorem recs_at (K : Dev nD × CI → ℕ) (p : Dev nD × CI) :
    recs X K ⊢ iprop(cellInv ER (sched X) (K p) (kcell p) ∗ reached ER (kcell p) 0) := by
  unfold recs
  exact sep_elim_left.trans (bigSep_elim (Finset.mem_univ p))
/-- The records allow a wait below everything still owed. -/
theorem recs_mayWait (K : Dev nD × CI → ℕ) (c : Dev nD) (sm : SemLoc sig) (l : List Item)
    (h : ∀ i ∈ l, lv ((c : Thread nD τ), sm) () < lev i) :
    recs X K ⊢ MayWait (c : Thread nD τ) sm () (oblig c l) := by
  unfold recs
  exact sep_elim_right.trans (mayWait c sm l h)

/-! ## Credits and tokens -/

/-- What device `c` waits on its cell `(j, k)` with, beside the credit. -/
def at0 (c : Dev nD) (j : Fin 10) (k : Fin 3) : sProp 𝕄 := atPos ER (cell c j k) 0 ∅ 0
/-- The cell's one round is over. -/
def at1 (c : Dev nD) (j : Fin 10) (k : Fin 3) : sProp 𝕄 := atPos ER (cell c j k) 1 ∅ 0
/-- The credit for cell `(j, k)`. -/
def crd (c : Dev nD) (j : Fin 10) (k : Fin 3) : sProp 𝕄 := cred (tallyAt (cell c j k) () (amt j))
/-- The tokens for the `k`-th copy of kind `s`: the sender's duty and the receiver's. -/
def toks (c : Dev nD) (s : Fin 5) (k : Fin 3) : sProp 𝕄 :=
  iprop(dutyTok ER (cell c (sj s) k) 0 0 ∗ dutyTok ER (cell (peer s k c) (rj s) k) 0 0)
/-- What the wait for the `k`-th copy of kind `s` to come in needs, -/
def recvTok (c : Dev nD) (s : Fin 5) (k : Fin 3) : sProp 𝕄 := iprop(crd c (rj s) k ∗ at0 c (rj s) k)
/-- and what the wait for it to have been sent needs, once it is under way. -/
def sentTok (c : Dev nD) (s : Fin 5) (k : Fin 3) : sProp 𝕄 := iprop(crd c (sj s) k ∗ at0 c (sj s) k)

end Cert.Reshard

end
-- ==== Proof.Program.lean ====
/-
# The kernel's body as a program in pieces

The body of the kernel, written once more as what it does in turn: the handshake, the three copies along `y`, the store
of the device's own rows, the three phases (each waits for a chunk, passes it on and stores it), the forwarded halves
and the waits for what the device sent. `body_eq` says that it is the kernel's body.
-/
module

public import proofs.«01_k».proof.Proof.Plan

@[expose] public section

noncomputable section

namespace Cert.Reshard

open Cert.KernelIdeal Cert.KernelIdeal.Gen
open Idealize.ShloMosaic
open Idealize.ShloMosaic.TcCoe Idealize.ShloMosaic.ValueIdx
open Idealize.SL Idealize.SL.Sem

variable {F : FTy → Type} [FloatOps F]

/-- Programs of one device's core. -/
abbrev TProg (F : FTy → Type) : Type 1 := Prog (TpuEff nD τ sig (Elt F) Λ₀ .tc) PUnit

variable (d : Dev nD)

/-- The wait on semaphore `(j, k)` for a whole chunk, and for half a chunk. -/
def waitSlot (M : Memref sig .tc .vmem S3x256x512 .f32) (j : Fin 10) (k : Fin 3) (rest : TProg F) : TProg F :=
  .op (.waitDma2 (semOf j k) (slot M k) (slot M k) ((View.wordExact_bits rfl).reshape _ _) ((View.wordExact_bits rfl).reshape _ _)) fun _ => rest
/-- A wait for half a chunk. -/
def waitHalf (j : Fin 10) (k : Fin 3) (rest : TProg F) : TProg F :=
  .op (.waitDma2 (semOf j k) (half dM k 0) (half dM k 0) ((View.wordExact_bits rfl).reshape _ _) ((View.wordExact_bits rfl).reshape _ _)) fun _ => rest

/-- The `k`-th copy along `y`, to device `n`; -/
def sendPart (n : Dev nD) (k : Fin 3) (rest : TProg F) : TProg F :=
  .op (.enqueueDma (part d k) (.remote (Dev.tc n) (slot cM k) (.dma (semOf (sj 0) k))) (.dma (semOf (rj 0) k))
    (View.wordExact_bits rfl) ((View.wordExact_bits rfl).reshape _ _) ⟨⟨rfl, Or.inl rfl⟩, trivial⟩) fun _ => rest
/-- a copy of kind `s` of a whole chunk, into buffer `M` of device `n`; -/
def sendSlot (M : Memref sig .tc .vmem S3x256x512 .f32) (hM : M.view.ref.isScScratch = false)
    (s : Fin 5) (n : Dev nD) (k : Fin 3) (rest : TProg F) : TProg F :=
  .op (.enqueueDma (slot cM k) (.remote (Dev.tc n) (slot M k) (.dma (semOf (sj s) k)) hM) (.dma (semOf (rj s) k))
    ((View.wordExact_bits rfl).reshape _ _) ((View.wordExact_bits rfl).reshape _ _) ⟨⟨rfl, Or.inl rfl⟩, trivial⟩) fun _ => rest
/-- a copy of kind `s` of half a chunk, out of buffer `M`. -/
def sendHalf (M : Memref sig .tc .vmem S3x256x512 .f32) (h : Fin 2) (s : Fin 5) (n : Dev nD) (k : Fin 3) (rest : TProg F) : TProg F :=
  .op (.enqueueDma (half M k h) (.remote (Dev.tc n) (half dM k h) (.dma (semOf (sj s) k))) (.dma (semOf (rj s) k))
    ((View.wordExact_bits rfl).reshape _ _) ((View.wordExact_bits rfl).reshape _ _) ⟨⟨rfl, Or.inl rfl⟩, trivial⟩) fun _ => rest

/-- Slot `k` of buffer `M` stored into the result at `off` (the load of the result's old elements is not used). -/
def chunk (M : Memref sig .tc .vmem S3x256x512 .f32) (k : Fin 3) (off : Fin 2 → ℕ) (inb : ∀ a, off a + S256x512.size a ≤ S4096x512.size a)
    (rest : TProg F) : TProg F :=
  .op (.load M (slotR k).toLoadRect (View.loadsAt_vmem h_S1x256x512)) fun v =>
  .op (.load oM (Rect.unit (s := S4096x512) off S256x512.size inb).toLoadRect (View.loadsAt_vmem h_S256x512)) fun _ =>
  .op (.store oM (Rect.unit (s := S4096x512) off S256x512.size inb) (shapeCast S256x512 v shapeCasts_S1x256x512_S256x512) Finset.univ
    (View.stores_vmem_bits_univ h_S256x512 rfl) (.inl rfl)) fun _ => rest

/-- The handshake: leave given to the five neighbours, and waited for from them. -/
def handshake (n₁ n₂ n₃ n₄ n₅ : Dev nD) (rest : TProg F) : TProg F :=
  .op (.semSignal ((n₁ : Dev nD) : Thread nD τ) barS 1) fun _ => .op (.semSignal ((n₂ : Dev nD) : Thread nD τ) barS 1) fun _ =>
  .op (.semSignal ((n₃ : Dev nD) : Thread nD τ) barS 1) fun _ => .op (.semSignal ((n₄ : Dev nD) : Thread nD τ) barS 1) fun _ =>
  .op (.semSignal ((n₅ : Dev nD) : Thread nD τ) barS 1) fun _ => .op (.semWait barS 5) fun _ => rest

/-- The device's own rows stored into the result. -/
def ownRows (rest : TProg F) : TProg F :=
  .op (.load xM (Rect.unit (s := S1024x2048) (k0_off2 d) S1024x512.size (k0_off2_inb d)).toLoadRect (View.loadsAt_vmem h_S1024x512)) fun v =>
  .op (.load oM (Rect.unit (s := S4096x512) (k0_off3 d) S1024x512.size (k0_off3_inb d)).toLoadRect (View.loadsAt_vmem h_S1024x512)) fun _ =>
  .op (.store oM (Rect.unit (s := S4096x512) (k0_off3 d) S1024x512.size (k0_off3_inb d)) (shapeCast S1024x512 v shapeCasts_S1024x512_S1024x512) Finset.univ
    (View.stores_vmem_bits_univ h_S1024x512 rfl) (.inl rfl)) fun _ => rest

/-- Phase `k`: the chunk from along `y` comes in, goes to both neighbours and is stored; the `z` neighbour's comes in,
    its second half goes on along `x`, and it is stored; the `x` neighbour's, with the first half on along `z`. -/
def phase (k : Fin 3) (n₁ n₂ n₃ n₄ : Dev nD) (rest : TProg F) : TProg F :=
  waitSlot cM 1 k <| sendSlot zM rfl 1 n₁ k <| sendSlot wM rfl 2 n₂ k <|
  chunk cM k (k0_off4 d (BitVec.ofNat 32 (1 + k.val))) (k0_off4_inb d k) <|
  waitSlot zM 3 k <| sendHalf zM 1 4 n₃ k <|
  chunk zM k (k0_off5 d (BitVec.ofNat 32 (1 + k.val))) (k0_off5_inb d k) <|
  waitSlot wM 5 k <| sendHalf wM 0 3 n₄ k <|
  chunk wM k (k0_off6 d (BitVec.ofNat 32 (1 + k.val))) (k0_off6_inb d k) rest

/-- Both halves of a chunk from across come in, and it is stored. -/
def across (k : Fin 3) (rest : TProg F) : TProg F :=
  waitHalf 7 k <| waitHalf 9 k <| chunk dM k (k0_off7 d (BitVec.ofNat 32 (1 + k.val))) (k0_off7_inb d k) rest

/-- The waits for what was sent: for each of the semaphores listed. -/
def waits (l : List (Fin 10 × Fin 3)) (rest : TProg F) : TProg F :=
  l.foldr (fun p r => if p.1.val < 6 then waitSlot cM p.1 p.2 r else waitHalf p.1 p.2 r) rest
/-- The semaphores that count what was sent, in the order in which they are waited for. -/
def sentList : List (Fin 10 × Fin 3) := (List.finRange 5).flatMap fun s => (List.finRange 3).map fun k => (sj s, k)

/-- All that follows the handshake. -/
def afterHandshake (n : Fin 15 → Dev nD) : TProg F :=
  sendPart d (n 0) 0 <| sendPart d (n 1) 1 <| sendPart d (n 2) 2 <| ownRows d <|
  phase d 0 (n 3) (n 4) (n 5) (n 6) <| phase d 1 (n 7) (n 8) (n 9) (n 10) <| phase d 2 (n 11) (n 12) (n 13) (n 14) <|
  across d 0 <| across d 1 <| across d 2 <| waits sentList (.ret ⟨⟩)

/-- The devices the copies go to, in program order. -/
def nbrs (d : Dev nD) : Fin 15 → Dev nD :=
  ![⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩, ⟨k0_dev16 d, k0_dev16_lt d⟩,
    ⟨k0_dev17 d, k0_dev17_lt d⟩, ⟨k0_dev18 d, k0_dev18_lt d⟩, ⟨k0_dev19 d, k0_dev19_lt d⟩, ⟨k0_dev20 d, k0_dev20_lt d⟩]

/-- The kernel's body. -/
def whole : TProg F :=
  .op .deviceId fun d => handshake ⟨k0_dev1 d, k0_dev1_lt d⟩ ⟨k0_dev2 d, k0_dev2_lt d⟩ ⟨k0_dev3 d, k0_dev3_lt d⟩ ⟨k0_dev4 d, k0_dev4_lt d⟩ ⟨k0_dev5 d, k0_dev5_lt d⟩ <|
    afterHandshake d (nbrs d)

set_option maxRecDepth 65536 in
set_option maxHeartbeats 4000000 in
/-- The kernel's body is this program. -/
theorem body_eq : cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 cc0_scratch12 cc0_scratch13
    = whole := by
  rw [cc0_body_eq_skeleton]; unfold cc0_body_skel
  rw [k0_part24_eq_skeleton]; unfold k0_part24_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel
  simp only [semSignalWord, semWaitWord, Prog.lift, Prog.bind_op, Prog.bind_ret, Prog.pure_eq_ret]
  rfl

end Cert.Reshard

end
-- ==== Proof.Steps.lean ====
/-
# One step of the kernel at a time

The rules of the pieces of `Program`: a copy under way, a wait for a copy, a chunk stored, the handshake. Each is stated
once, for any copy, buffer and phase, with what the device holds before and after.
-/
module

public import proofs.«01_k».proof.Proof.Program

@[expose] public section

noncomputable section

namespace Cert.Reshard

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No measures are needed: the body has no loop. -/
abbrev 𝒱₀ : Variants := Variants.none

/-- Device `c` may run the program and will then have `Q`. -/
abbrev runs (c : Dev nD) (p : TProg F) (Q : PUnit.{1} → sProp 𝕄) : sProp 𝕄 :=
  wp frame (wpE (defs₀ (F := F)) 𝒱₀ (c : Thread nD τ) none) Set.univ p Q

variable (X : Dev nD → S1024x2048.Idx → Elt F .f32) (K : Dev nD × CI → ℕ) (c : Dev nD)
variable {Q : PUnit → sProp (MT nD τ sig Unit (Elt F) ℕ UU ℕ)}

/-! ## Memory -/

section Held
variable {sh : Shape} {e : EltTy}

omit [FloatOps F] in
/-- A share of what is held, in two halves. -/
theorem held_share (M : Memref sig .tc .vmem sh e) (q : PosShare TreeShare) (f) :
    held (F := F) c M q f ⊣⊢ iprop(held c M q.left f ∗ held c M q.right f) := by
  unfold held; exact pointsTo_share (PosShare.mem_left_op_right q)

omit [FloatOps F] in
/-- Writing what another memref reads makes the contents of which it is the reading. -/
theorem held_landed (M : Memref sig .tc .vmem sh e) (fd Fd : Buf (Elt F) (M.view.loc (c : Thread nD τ))) (w : sh.Idx → Elt F e)
    (hw : w = M.view.read (Elt F) Fd) :
    (M.view.loc (c : Thread nD τ) ↦[M.view.set]{fullShare} (M.view.write (Elt F) fd w Finset.univ) : sProp 𝕄) ⊢ held c M fullShare Fd := by
  unfold held
  refine Entails.of_eq (pointsTo_congr fun i hi => ?_)
  rw [hw, View.write_read_eq_piecewise]
  exact Finset.piecewise_eq_of_mem _ _ _ hi

end Held

omit [FloatOps F] in
/-- A buffer held is its three slots held, -/
theorem slots_split (M : Memref sig .tc .vmem S3x256x512 .f32) (q : PosShare TreeShare) (f) :
    held (F := F) c M q f = bigSep Finset.univ fun k : Fin 3 => held c (slot M k) q f := by
  unfold held
  rw [slots_cover M]
  exact pointsTo_biUnion _ _ fun k _ k' _ h => slots_disjoint M h
omit [FloatOps F] in
/-- and a slot held is its two halves held. -/
theorem halves_split (M : Memref sig .tc .vmem S3x256x512 .f32) (k : Fin 3) (q : PosShare TreeShare) (f) :
    held (F := F) c (slot M k) q f ⊣⊢ iprop(held c (half M k 0) q f ∗ held c (half M k 1) q f) := by
  unfold held
  rw [halves_cover M k]
  exact pointsTo_union (halves_disjoint M k)

/-! ## Copies -/

/-- The `k`-th copy of kind `s` starts: the share of the source goes into its sending cell, the peer's landing place into
    its receiving cell, and the device has paid the item. -/
theorem runs_copy {n : Dev nD} {s : Fin 5} {k : Fin 3} (hn : n = peer s k c) {sh : Shape} {src dst : Memref sig .tc .vmem sh .f32}
    {q : PosShare TreeShare} {fs : Buf (Elt F) (src.view.loc (c : Thread nD τ))}
    (Fd : Buf (Elt F) (dst.view.loc ((peer s k c : Dev nD) : Thread nD τ)))
    (hs : pay X c (sj s) k = held c src q fs) (hd : pay X (peer s k c) (rj s) k = held (peer s k c) dst fullShare Fd)
    (hr : src.view.read (Elt F) fs = dst.view.read (Elt F) Fd) (hN : dst.view.dmaCredit = amt (rj s)) (ha : amt (sj s) = amt (rj s))
    {hsc : (show Memref sig (Dev.tc n : Thread nD τ).2.kind .vmem sh .f32 from dst).view.ref.isScScratch = false}
    {hsrc : src.view.WordExact} {hdst : (show Memref sig (Dev.tc n : Thread nD τ).2.kind .vmem sh .f32 from dst).view.WordExact}
    {hsem : DmaTarget.Typed .vmem (.dma (semOf (rj s) k)) (.remote (Dev.tc n : Thread nD τ) dst (.dma (semOf (sj s) k)) hsc)}
    {l : List Item} {rest : PUnit → TProg F} :
    iprop(recs X K ∗ held c src q fs ∗ free (F := F) (peer s k c) dst ∗ owesE c (.send s k :: l) ∗ toks c s k)
      ⊢ iprop(((crd c (sj s) k ∗ owesE c l) -∗ runs c (rest ⟨⟩) Q)
          -∗ runs c (.op (.enqueueDma src (.remote (Dev.tc n : Thread nD τ) dst (.dma (semOf (sj s) k)) hsc) (.dma (semOf (rj s) k)) hsrc hdst hsem) rest) Q) := by
  subst hn
  unfold free toks owesE
  iintro ⟨#HR, Hs, ⟨%fd, Hd⟩, ⟨%W, HO⟩, Ht₁, Ht₂⟩
  ihave ⟨HI₁, Hr₁⟩ := (recs_at X K (c, some (sj s, k))) $$ HR
  ihave ⟨HI₂, Hr₂⟩ := (recs_at X K (peer s k c, some (rj s, k))) $$ HR
  iintro Hk
  iapply (Rounds.wp_send_pointsTo 𝒱₀ ER (sched X) (c : Thread nD τ) none (κ₁ := K (c, some (sj s, k))) (κ₂ := K (peer s k c, some (rj s, k)))
    (r₁ := 0) (r₂ := 0) (d₁ := 0) (d₂ := 0) (fd := fd) (q := q) (fs := fs)
    (by rw [duties_cell]; exact Finset.mem_singleton_self _) (by rw [duties_cell]; exact Finset.mem_singleton_self _)
    () () (amt (rj s)) (show dst.view.amount (.dma (semOf (rj s) k)) = _ from hN) ((amount_cell X c (sj s) k 0).trans ha) (amount_cell X (peer s k c) (rj s) k 0)
    (oblig c l) rfl (W := W)
    (by rw [payload_cell, hs]; exact Entails.refl _)
    (by rw [payload_cell, hd]; exact held_landed _ dst fd Fd _ hr)) $$ [HI₁ HI₂ Hs Hd HO Ht₁ Ht₂ Hr₁ Hr₂]
  · unfold held
    isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]
  · unfold crd; rw [ha]; iexact Hc
  · iexists W; iexact HO

/-- The wait on cell `(j, k)`: what it hands over, and its round is over. -/
theorem runs_wait {j : Fin 10} {k : Fin 3} {sh : Shape} {M M' : Memref sig .tc .vmem sh .f32} {h : M.view.WordExact} {h' : M'.view.WordExact}
    (hN : M'.view.dmaCredit = amt j) {l : List Item} (hl : ∀ i ∈ l, levelOf j k < lev i) {rest : PUnit → TProg F} :
    iprop(recs X K ∗ crd c j k ∗ at0 c j k ∗ owesE c l)
      ⊢ iprop(((at1 c j k ∗ pay X c j k ∗ owesE c l) -∗ runs c (rest ⟨⟩) Q)
          -∗ runs c (.op (.waitDma2 (semOf j k) M M' h h') rest) Q) := by
  have hmw := recs_mayWait X K c (.dma (semOf j k)) l fun i hi => by rw [lv_cell]; exact hl i hi
  unfold crd at0 at1 owesE
  iintro ⟨#HR, Hc, Ha, %W, HO⟩
  ihave ⟨HI, -⟩ := (recs_at X K (c, some (j, k))) $$ HR
  iintro Hk
  iapply (Rounds.wp_wait_rest_token 𝒱₀ ER (sched X) (c : Thread nD τ) none (κ := K (c, some (j, k)))
    (wpE_waitDma2_eq 𝒱₀ (c : Thread nD τ) none Set.univ) (Set.mem_univ _) () (O := oblig c l) (W := W) (R := 0) (m := 0) (T := ∅)
    (by rw [Nat.zero_add]; exact hN.trans (expect_cell X c j k).symm)) $$ [HI Hc HO Ha]
  · isplitl [HI]; · iexact HI
    isplitl [Hc]; · rw [hN]; iexact Hc
    isplitl [HO]; · iexact HO
    isplitr
    · iapply hmw; iexact HR
    iexact Ha
  iintro ⟨HO, Ha, -, Hp⟩
  ihave Hp := (Entails.of_eq (rest_cell X c j k)) $$ Hp
  iapply Hk
  isplitl [Ha]; · iexact Ha
  isplitl [Hp]; · iexact Hp
  iexists _; iexact HO

/-- What a whole chunk and half a chunk count for does not depend on the buffer and the slot. -/
theorem credit_slot (M : Memref sig .tc .vmem S3x256x512 .f32) (k : Fin 3) {j : Fin 10} (h : j.val < 6) : (slot M k).view.dmaCredit = amt j :=
  (show _ = N256 from rfl).trans (if_pos h).symm
/-- Half a chunk counts for what its arrays' copies count for. -/
theorem credit_half (M : Memref sig .tc .vmem S3x256x512 .f32) (k : Fin 3) (h : Fin 2) {j : Fin 10} (hj : ¬j.val < 6) :
    (half M k h).view.dmaCredit = amt j :=
  (show _ = N128 from rfl).trans (if_neg hj).symm
/-- Both sides of a copy count the same. -/
theorem amt_sides : ∀ s : Fin 5, amt (sj s) = amt (rj s)
  | 0 | 1 | 2 => (if_pos (by decide)).trans (if_pos (by decide)).symm
  | 3 | 4 => (if_neg (by decide)).trans (if_neg (by decide)).symm

/-- The same, for the programs the body is made of. -/
theorem runs_sendPart {n : Dev nD} {k : Fin 3} (hn : n = yp (k.val + 1) c) {l : List Item} {rest : TProg F} :
    iprop(recs X K ∗ held c (part c k) (qx k) (X c) ∗ free (F := F) (yp (k.val + 1) c) (slot cM k) ∗ owesE c (.send 0 k :: l) ∗ toks c 0 k)
      ⊢ iprop(((crd c (sj 0) k ∗ owesE c l) -∗ runs c rest Q) -∗ runs c (sendPart c n k rest) Q) := by
  unfold sendPart
  have hs : pay X c (sj 0) k = held c (part c k) (qx k) (X c) := rfl
  have hd : pay X (peer 0 k c) (rj 0) k = held (peer 0 k c) (slot cM k) fullShare (comm X (peer 0 k c)) := rfl
  exact runs_copy X K c (s := 0) (src := part c k) (dst := slot cM k) hn (comm X (peer 0 k c)) hs hd (part_read X c k) (credit_slot cM k (by decide)) (amt_sides 0)
    (hsrc := View.wordExact_bits rfl) (hdst := (View.wordExact_bits rfl).reshape _ _) (hsem := ⟨⟨rfl, Or.inl rfl⟩, trivial⟩) (rest := fun _ => rest)
/-- A copy of a whole chunk: the source's share and the leave to write go in, the credit for the wait comes out. -/
theorem runs_sendSlot {M : Memref sig .tc .vmem S3x256x512 .f32} {hM : M.view.ref.isScScratch = false} {s : Fin 5} {n : Dev nD} {k : Fin 3}
    (hn : n = peer s k c) {q : PosShare TreeShare} {fs} (Fd : Buf (Elt F) ((slot M k).view.loc ((peer s k c : Dev nD) : Thread nD τ)))
    (hs : pay X c (sj s) k = held c (slot cM k) q fs) (hd : pay X (peer s k c) (rj s) k = held (peer s k c) (slot M k) fullShare Fd)
    (hr : (slot cM k).view.read (Elt F) fs = (slot M k).view.read (Elt F) Fd) (hj : (rj s).val < 6)
    {l : List Item} {rest : TProg F} :
    iprop(recs X K ∗ held c (slot cM k) q fs ∗ free (F := F) (peer s k c) (slot M k) ∗ owesE c (.send s k :: l) ∗ toks c s k)
      ⊢ iprop(((crd c (sj s) k ∗ owesE c l) -∗ runs c rest Q) -∗ runs c (sendSlot M hM s n k rest) Q) := by
  unfold sendSlot
  exact runs_copy X K c hn Fd hs hd hr (credit_slot M k hj) (amt_sides s) (hsc := hM) (rest := fun _ => rest)
    (hsrc := (View.wordExact_bits rfl).reshape _ _) (hdst := (View.wordExact_bits rfl).reshape _ _) (hsem := ⟨⟨rfl, Or.inl rfl⟩, trivial⟩)
/-- A copy of half a chunk, likewise. -/
theorem runs_sendHalf {M : Memref sig .tc .vmem S3x256x512 .f32} {h : Fin 2} {s : Fin 5} {n : Dev nD} {k : Fin 3}
    (hn : n = peer s k c) {q : PosShare TreeShare} {fs} (Fd : Buf (Elt F) ((half dM k h).view.loc ((peer s k c : Dev nD) : Thread nD τ)))
    (hs : pay X c (sj s) k = held c (half M k h) q fs) (hd : pay X (peer s k c) (rj s) k = held (peer s k c) (half dM k h) fullShare Fd)
    (hr : (half M k h).view.read (Elt F) fs = (half dM k h).view.read (Elt F) Fd) (hj : ¬(rj s).val < 6)
    {l : List Item} {rest : TProg F} :
    iprop(recs X K ∗ held c (half M k h) q fs ∗ free (F := F) (peer s k c) (half dM k h) ∗ owesE c (.send s k :: l) ∗ toks c s k)
      ⊢ iprop(((crd c (sj s) k ∗ owesE c l) -∗ runs c rest Q) -∗ runs c (sendHalf M h s n k rest) Q) := by
  unfold sendHalf
  exact runs_copy X K c hn Fd hs hd hr (credit_half dM k h hj) (amt_sides s) (rest := fun _ => rest)
    (hsrc := (View.wordExact_bits rfl).reshape _ _) (hdst := (View.wordExact_bits rfl).reshape _ _) (hsem := ⟨⟨rfl, Or.inl rfl⟩, trivial⟩)
/-- A wait for a whole chunk hands over what the cell's duty pays. -/
theorem runs_waitSlot {M : Memref sig .tc .vmem S3x256x512 .f32} {j : Fin 10} {k : Fin 3} (hj : j.val < 6)
    {l : List Item} (hl : ∀ i ∈ l, levelOf j k < lev i) {rest : TProg F} :
    iprop(recs X K ∗ crd c j k ∗ at0 c j k ∗ owesE c l)
      ⊢ iprop(((at1 c j k ∗ pay X c j k ∗ owesE c l) -∗ runs c rest Q) -∗ runs c (waitSlot M j k rest) Q) := by
  unfold waitSlot
  exact runs_wait X K c (credit_slot M k hj) hl (rest := fun _ => rest) (h := (View.wordExact_bits rfl).reshape _ _) (h' := (View.wordExact_bits rfl).reshape _ _)
/-- A wait for half a chunk, likewise. -/
theorem runs_waitHalf {j : Fin 10} {k : Fin 3} (hj : ¬j.val < 6)
    {l : List Item} (hl : ∀ i ∈ l, levelOf j k < lev i) {rest : TProg F} :
    iprop(recs X K ∗ crd c j k ∗ at0 c j k ∗ owesE c l)
      ⊢ iprop(((at1 c j k ∗ pay X c j k ∗ owesE c l) -∗ runs c rest Q) -∗ runs c (waitHalf j k rest) Q) := by
  unfold waitHalf
  exact runs_wait X K c (credit_half dM k 0 hj) hl (rest := fun _ => rest) (h := (View.wordExact_bits rfl).reshape _ _) (h' := (View.wordExact_bits rfl).reshape _ _)

/-! ## Loads and stores -/

/-- The result, with the sixteenths listed in `D` in place. -/
def outPts (D : List ℕ) : sProp 𝕄 := iprop(∃ f : S4096x512.Idx → Elt F .f32, ⌜good X c D f⌝ ∗ held (F := F) c oM fullShare f)

/-- A store into the result (after a load that is not used). -/
theorem runs_store {r : Rect S4096x512} {w : r.shape.Idx → Elt F .f32} {D D' : List ℕ}
    (h : ∀ f, good X c D f → good X c D' ((oM.access r).write (Elt F) f w Finset.univ))
    {hl : oM.view.LoadsAt r.toLoadRect} {hx : (oM.access r).Stores Finset.univ} {hm} {rest : TProg F} :
    outPts X c D ⊢ iprop((outPts X c D' -∗ runs c rest Q)
      -∗ runs c (.op (.load oM r.toLoadRect hl) fun _ => .op (.store oM r w Finset.univ hx hm) fun _ => rest) Q) := by
  have hset : (oM.view.set : Finset _) = Finset.univ := View.set_whole _
  unfold outPts held
  rw [hset]
  iintro ⟨%f, %hf, Hout⟩ Hk
  iapply (wp_load 𝒱₀ (c : Thread nD τ) none Set.univ (m := oM) (Finset.subset_univ _)) $$ Hout; iintro Hout
  iapply (wp_store 𝒱₀ (c : Thread nD τ) none Set.univ (m := oM) (r := r) (Mk := Finset.univ) (Finset.subset_univ _)) $$ Hout; iintro Hout
  iapply Hk
  iexists _
  isplitr; · ipureintro; exact h f hf
  iexact Hout

/-- Slot `k` of a buffer that holds `e`'s chunks is stored. -/
theorem runs_chunk (e : Dev nD) (he : Quad c e) {M : Memref sig .tc .vmem S3x256x512 .f32} {k : Fin 3} {q : PosShare TreeShare}
    {f : Buf (Elt F) (M.view.loc (c : Thread nD τ))} (hf : (M.access (slotR k)).read (Elt F) f = fun p => comm X e ((slotR k).emb p))
    {off : Fin 2 → ℕ} {inb : ∀ a, off a + S256x512.size a ≤ S4096x512.size a} (hoff : off = ![256 * blk e k, 0]) {D : List ℕ} {rest : TProg F} :
    iprop(held c (slot M k) q f ∗ outPts X c D)
      ⊢ iprop(((held c (slot M k) q f ∗ outPts X c (blk e k :: D)) -∗ runs c rest Q) -∗ runs c (chunk M k off inb rest) Q) := by
  unfold chunk
  iintro ⟨Hs, Hout⟩ Hk
  unfold held
  iapply (wp_load_rect 𝒱₀ (c : Thread nD τ) none Set.univ (m := M) (r := slotR k) (by rw [View.set_reshape])) $$ Hs; iintro Hs
  rw [hf]
  iapply (runs_store X c fun g hg => good_chunk hg e he k off inb hoff) $$ Hout
  iintro Hout
  iapply Hk
  isplitl [Hs]; · iexact Hs
  iexact Hout

/-- The device's own rows are stored. -/
theorem runs_own {q : PosShare TreeShare} {f : S4096x512.Idx → Elt F .f32} {rest : TProg F} :
    iprop(held c xM q (X c) ∗ held c oM fullShare f)
      ⊢ iprop(((held c xM q (X c) ∗ outPts X c ((List.range 4).map fun j => 4 * (c.val / 4 % 4) + j)) -∗ runs c rest Q) -∗ runs c (ownRows c rest) Q) := by
  have hset : (xM.view.set : Finset _) = Finset.univ := View.set_whole _
  unfold ownRows
  iintro ⟨Hx, Hout⟩ Hk
  unfold held
  rw [hset]
  iapply (wp_load 𝒱₀ (c : Thread nD τ) none Set.univ (m := xM) (Finset.subset_univ _)) $$ Hx; iintro Hx
  iapply (runs_store X c (D := []) fun g _ => good_own X c g _ rfl) $$ [Hout]
  · unfold outPts held; iexists f; isplitr; · (ipureintro; exact fun i hi => absurd hi List.not_mem_nil)
    iexact Hout
  iintro Hout
  iapply Hk
  isplitl [Hx]; · iexact Hx
  iexact Hout

/-! ## The handshake -/

/-- A neighbour's barrier is raised: it has leave to write. -/
theorem runs_signal {n : Dev nD} {d : Fin 5} (hn : n = bpeer d c) {l : List Item} {rest : PUnit → TProg F} :
    iprop(recs X K ∗ barPay (F := F) (bpeer d c) d ∗ owesE c (.bar d :: l) ∗ dutyTok ER (barCell (bpeer d c)) 0 d)
      ⊢ iprop((owesE c l -∗ runs c (rest ⟨⟩) Q) -∗ runs c (.op (.semSignal ((n : Dev nD) : Thread nD τ) barS 1) rest) Q) := by
  subst hn
  unfold owesE
  iintro ⟨#HR, Hp, ⟨%W, HO⟩, Ht⟩
  ihave ⟨HI, Hr⟩ := (recs_at X K (bpeer d c, none)) $$ HR
  iintro Hk
  iapply (Rounds.wp_signal 𝒱₀ ER (sched X) (c : Thread nD τ) none (dst := ((bpeer d c : Dev nD) : Thread nD τ)) (κ := K (bpeer d c, none))
      (d := d) (r := 0) (by rw [duties_bar]; exact Finset.mem_univ _) ((amount_bar X (bpeer d c) d).trans (by decide)) () (oblig c l) rfl (W := W))
    $$ [HI HO Ht Hp Hr]
  · isplitl [HI]; · iexact HI
    isplitl [HO]; · iexact HO
    isplitl [Ht]; · iexact Ht
    isplitl [Hp]; · rw [payload_bar]; iexact Hp
    iexact Hr
  iintro HO
  iapply Hk
  iexists W; iexact HO

/-- The wait for all five neighbours. -/
theorem runs_barrier {l : List Item} (hl : ∀ i ∈ l, 1 < lev i) {rest : PUnit → TProg F} :
    iprop(recs X K ∗ cred (tallyAt (barCell c) () 5) ∗ atPos ER (barCell c) 0 ∅ 0 ∗ owesE c l)
      ⊢ iprop(((atPos ER (barCell c) 1 ∅ 0 ∗ (bigSep Finset.univ (barPay (F := F) c)) ∗ owesE c l) -∗ runs c (rest ⟨⟩) Q)
          -∗ runs c (.op (.semWait barS 5) rest) Q) := by
  have hmw := recs_mayWait X K c (.reg barS) l hl
  unfold owesE
  iintro ⟨#HR, Hc, Ha, %W, HO⟩
  ihave ⟨HI, -⟩ := (recs_at X K (c, none)) $$ HR
  iintro Hk
  iapply (Rounds.wp_wait_rest_token 𝒱₀ ER (sched X) (c : Thread nD τ) none (κ := K (c, none))
    (wpE_semWait_eq 𝒱₀ (c : Thread nD τ) none Set.univ) (Set.mem_univ _) () (O := oblig c l) (W := W) (R := 0) (m := 0) (T := ∅)
    (by rw [expect_bar])) $$ [HI Hc HO Ha]
  · isplitl [HI]; · iexact HI
    isplitl [Hc]; · iexact Hc
    isplitl [HO]; · iexact HO
    isplitr
    · iapply hmw; iexact HR
    iexact Ha
  iintro ⟨HO, Ha, -, Hp⟩
  ihave Hp := (Entails.of_eq (rest_bar X c)) $$ Hp
  iapply Hk
  isplitl [Ha]; · iexact Ha
  isplitl [Hp]; · iexact Hp
  iexists _; iexact HO

end Cert.Reshard

end
-- ==== Proof.Phases.lean ====
/-
# A phase, a chunk from across, the waits for what was sent

The longer pieces of the body, each once for any phase `k`, from what it needs to what it leaves.
-/
module

public import proofs.«01_k».proof.Proof.Steps

@[expose] public section

noncomputable section

namespace Cert.Reshard

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x2048.Idx → Elt F .f32) (K : Dev nD × CI → ℕ) (c : Dev nD)
variable {Q : PUnit → sProp (MT nD τ sig Unit (Elt F) ℕ UU ℕ)}

/-! ## The four copies of a phase -/

/-- The device across from the `x` neighbour is the `z` neighbour. -/
theorem xp_zp_xp (c : Dev nD) : xp (zp (xp c)) = zp c := by rw [zp_xp, xp_xp]

/-- A chunk goes to the `z` neighbour, -/
theorem runs_send1 {n : Dev nD} {k : Fin 3} (hn : n = zp c) {l : List Item} {rest : TProg F} :
    iprop(recs X K ∗ held c (slot cM k) fullShare.left (comm X c) ∗ free (F := F) (zp c) (slot zM k) ∗ owesE c (.send 1 k :: l) ∗ toks (F := F) c 1 k)
      ⊢ iprop(((crd (F := F) c (sj 1) k ∗ owesE c l) -∗ runs c rest Q) -∗ runs c (sendSlot zM rfl 1 n k rest) Q) := by
  have hs : pay X c (sj 1) k = held c (slot cM k) fullShare.left (comm X c) := rfl
  have hd : pay X (peer 1 k c) (rj 1) k = held (peer 1 k c) (slot zM k) fullShare (comm X (zp (zp c))) := rfl
  exact runs_sendSlot X K c (M := zM) (s := 1) (k := k) hn (comm X (zp (zp c))) hs hd (by rw [show (zp (zp c)) = c from zp_zp c]; funext p; rfl) (by decide)
/-- and to the `x` neighbour; -/
theorem runs_send2 {n : Dev nD} {k : Fin 3} (hn : n = xp c) {l : List Item} {rest : TProg F} :
    iprop(recs X K ∗ held c (slot cM k) fullShare.right.left (comm X c) ∗ free (F := F) (xp c) (slot wM k) ∗ owesE c (.send 2 k :: l) ∗ toks (F := F) c 2 k)
      ⊢ iprop(((crd (F := F) c (sj 2) k ∗ owesE c l) -∗ runs c rest Q) -∗ runs c (sendSlot wM rfl 2 n k rest) Q) := by
  have hs : pay X c (sj 2) k = held c (slot cM k) fullShare.right.left (comm X c) := rfl
  have hd : pay X (peer 2 k c) (rj 2) k = held (peer 2 k c) (slot wM k) fullShare (comm X (xp (xp c))) := rfl
  exact runs_sendSlot X K c (M := wM) (s := 2) (k := k) hn (comm X (xp (xp c))) hs hd (by rw [show (xp (xp c)) = c from xp_xp c]; funext p; rfl) (by decide)
/-- the first half of the `x` neighbour's goes on to the `z` neighbour, -/
theorem runs_send3 {n : Dev nD} {k : Fin 3} (hn : n = zp c) {l : List Item} {rest : TProg F} :
    iprop(recs X K ∗ held c (half wM k 0) fullShare.left (comm X (xp c)) ∗ free (F := F) (zp c) (half dM k 0) ∗ owesE c (.send 3 k :: l) ∗ toks (F := F) c 3 k)
      ⊢ iprop(((crd (F := F) c (sj 3) k ∗ owesE c l) -∗ runs c rest Q) -∗ runs c (sendHalf wM 0 3 n k rest) Q) := by
  have hs : pay X c (sj 3) k = held c (half wM k 0) fullShare.left (comm X (xp c)) := rfl
  have hd : pay X (peer 3 k c) (rj 3) k = held (peer 3 k c) (half dM k 0) fullShare (comm X (xp (zp (zp c)))) := rfl
  exact runs_sendHalf X K c (M := wM) (h := 0) (s := 3) (k := k) hn (comm X (xp (zp (zp c)))) hs hd (by rw [show (xp (zp (zp c))) = (xp c) from congrArg xp (zp_zp c)]; funext p; rfl) (by decide)
/-- and the second half of the `z` neighbour's to the `x` neighbour. -/
theorem runs_send4 {n : Dev nD} {k : Fin 3} (hn : n = xp c) {l : List Item} {rest : TProg F} :
    iprop(recs X K ∗ held c (half zM k 1) fullShare.left (comm X (zp c)) ∗ free (F := F) (xp c) (half dM k 1) ∗ owesE c (.send 4 k :: l) ∗ toks (F := F) c 4 k)
      ⊢ iprop(((crd (F := F) c (sj 4) k ∗ owesE c l) -∗ runs c rest Q) -∗ runs c (sendHalf zM 1 4 n k rest) Q) := by
  have hs : pay X c (sj 4) k = held c (half zM k 1) fullShare.left (comm X (zp c)) := rfl
  have hd : pay X (peer 4 k c) (rj 4) k = held (peer 4 k c) (half dM k 1) fullShare (comm X (xp (zp (xp c)))) := rfl
  exact runs_sendHalf X K c (M := zM) (h := 1) (s := 4) (k := k) hn (comm X (xp (zp (xp c)))) hs hd (by rw [show (xp (zp (xp c))) = (zp c) from xp_zp_xp c]; funext p; rfl) (by decide)

/-! ## A phase -/

/-- The neighbours' landing places that phase `k` writes into. -/
def landing (k : Fin 3) : sProp 𝕄 :=
  iprop((free (F := F) (zp c) (slot zM k) ∗ free (F := F) (zp c) (half dM k 0)) ∗ (free (F := F) (xp c) (slot wM k) ∗ free (F := F) (xp c) (half dM k 1)))
/-- What phase `k` needs. -/
def before (k : Fin 3) : sProp 𝕄 :=
  iprop(landing (F := F) c k ∗ (toks (F := F) c 1 k ∗ toks (F := F) c 2 k ∗ toks (F := F) c 3 k ∗ toks (F := F) c 4 k)
    ∗ (recvTok (F := F) c 0 k ∗ recvTok (F := F) c 1 k ∗ recvTok (F := F) c 2 k))
/-- What phase `k` leaves: the credits for its copies, its receiving cells done, and the shares of the three chunks that
    are not lent. -/
def after (k : Fin 3) : sProp 𝕄 :=
  iprop((crd (F := F) c (sj 1) k ∗ crd (F := F) c (sj 2) k ∗ crd (F := F) c (sj 3) k ∗ crd (F := F) c (sj 4) k)
    ∗ (at1 (F := F) c (rj 0) k ∗ at1 (F := F) c (rj 1) k ∗ at1 (F := F) c (rj 2) k)
    ∗ held c (slot cM k) fullShare.right.right (comm X c)
    ∗ (held c (half zM k 0) fullShare.left (comm X (zp c)) ∗ held c (slot zM k) fullShare.right (comm X (zp c)))
    ∗ (held c (half wM k 1) fullShare.left (comm X (xp c)) ∗ held c (slot wM k) fullShare.right (comm X (xp c))))

/-- A phase: its three chunks are received, passed on and stored, so that three more parts of the result are right. While it
    waits, all that is still owed after the phase must lie above the phase's level. -/
theorem runs_phase {k : Fin 3} {n₁ n₂ n₃ n₄ : Dev nD} (h₁ : n₁ = zp c) (h₂ : n₂ = xp c) (h₃ : n₃ = xp c) (h₄ : n₄ = zp c)
    {l : List Item} (hl : ∀ i ∈ l, 3 + k.val < lev i) {D : List ℕ} {rest : TProg F} :
    iprop(recs X K ∗ before c k ∗ owesE c (phaseItems k ++ l) ∗ outPts X c D)
      ⊢ iprop(((after X c k ∗ owesE c l ∗ outPts X c ([blk (xp c) k, blk (zp c) k, blk c k] ++ D)) -∗ runs c rest Q)
          -∗ runs c (phase c k n₁ n₂ n₃ n₄ rest) Q) := by
  have hp : ∀ i ∈ phaseItems k ++ l, 2 < lev i := fun i hi => by
    rcases List.mem_append.mp hi with hi | hi
    · simp only [phaseItems, List.mem_cons, List.not_mem_nil, or_false] at hi
      rcases hi with rfl | rfl | rfl | rfl <;> simp [lev, levelOf, rj] <;> omega
    · have := hl i hi; omega
  have hf : ∀ s, (s = 3 ∨ s = 4) → ∀ i : Item, i = .send s k → 3 + k.val < lev i := by
    rintro s (rfl | rfl) i rfl <;> simp [lev, levelOf, rj] <;> omega
  unfold phase before landing recvTok
  iintro ⟨#HR, ⟨⟨⟨HLz, HLd0⟩, HLw, HLd1⟩, ⟨Ht1, Ht2, Ht3, Ht4⟩, ⟨Hc0, Ha0⟩, ⟨Hc1, Ha1⟩, Hc2, Ha2⟩, HO, Hout⟩ Hk
  -- the chunk from along `y`
  iapply (runs_waitSlot X K c (M := cM) (j := 1) (by decide) (l := phaseItems k ++ l) hp) $$ [Hc0 Ha0 HO]
  · isplitr; · iexact HR
    isplitl [Hc0]; · iexact Hc0
    isplitl [Ha0]; · iexact Ha0
    iexact HO
  iintro ⟨Ha0, Hp, HO⟩
  unfold phaseItems
  ihave Hp := (Entails.of_eq (show pay X c 1 k = held c (slot cM k) fullShare (comm X c) from rfl)) $$ Hp
  ihave ⟨HpA, Hp⟩ := (held_share (F := F) c (slot cM k) fullShare (comm X c)).1 $$ Hp
  ihave ⟨HpB, HpC⟩ := (held_share (F := F) c (slot cM k) fullShare.right (comm X c)).1 $$ Hp
  iapply (runs_send1 X K c h₁) $$ [HpA HLz HO Ht1]
  · isplitr; · iexact HR
    isplitl [HpA]; · iexact HpA
    isplitl [HLz]; · iexact HLz
    isplitl [HO]; · iexact HO
    iexact Ht1
  iintro ⟨Hs1, HO⟩
  iapply (runs_send2 X K c h₂) $$ [HpB HLw HO Ht2]
  · isplitr; · iexact HR
    isplitl [HpB]; · iexact HpB
    isplitl [HLw]; · iexact HLw
    isplitl [HO]; · iexact HO
    iexact Ht2
  iintro ⟨Hs2, HO⟩
  iapply (runs_chunk X c c (quad_self c) (f := comm X c) (M := cM) rfl (off4_at c k)) $$ [HpC Hout]
  · isplitl [HpC] <;> iassumption
  iintro ⟨HpC, Hout⟩
  -- the `z` neighbour's
  iapply (runs_waitSlot X K c (M := zM) (j := 3) (by decide) (l := .send 4 k :: .send 3 k :: l) (fun i hi => by
      rcases List.mem_cons.mp hi with hi | hi
      · exact hf 4 (.inr rfl) i hi
      rcases List.mem_cons.mp hi with hi | hi
      · exact hf 3 (.inl rfl) i hi
      · exact hl i hi)) $$ [Hc1 Ha1 HO]
  · isplitr; · iexact HR
    isplitl [Hc1]; · iexact Hc1
    isplitl [Ha1]; · iexact Ha1
    iexact HO
  iintro ⟨Ha1, Hp, HO⟩
  ihave Hp := (Entails.of_eq (show pay X c 3 k = held c (slot zM k) fullShare (comm X (zp c)) from rfl)) $$ Hp
  ihave ⟨Hz, HzR⟩ := (held_share (F := F) c (slot zM k) fullShare (comm X (zp c))).1 $$ Hp
  ihave ⟨Hz0, Hz1⟩ := (halves_split (F := F) c zM k fullShare.left (comm X (zp c))).1 $$ Hz
  iapply (runs_send4 X K c h₃) $$ [Hz1 HLd1 HO Ht4]
  · isplitr; · iexact HR
    isplitl [Hz1]; · iexact Hz1
    isplitl [HLd1]; · iexact HLd1
    isplitl [HO]; · iexact HO
    iexact Ht4
  iintro ⟨Hs4, HO⟩
  iapply (runs_chunk X c (zp c) (quad_zp c) (f := comm X (zp c)) (M := zM) rfl (off5_at c k)) $$ [HzR Hout]
  · isplitl [HzR] <;> iassumption
  iintro ⟨HzR, Hout⟩
  -- the `x` neighbour's
  iapply (runs_waitSlot X K c (M := wM) (j := 5) (by decide) (l := .send 3 k :: l) (fun i hi => by
      rcases List.mem_cons.mp hi with hi | hi
      · exact hf 3 (.inl rfl) i hi
      · exact hl i hi)) $$ [Hc2 Ha2 HO]
  · isplitr; · iexact HR
    isplitl [Hc2]; · iexact Hc2
    isplitl [Ha2]; · iexact Ha2
    iexact HO
  iintro ⟨Ha2, Hp, HO⟩
  ihave Hp := (Entails.of_eq (show pay X c 5 k = held c (slot wM k) fullShare (comm X (xp c)) from rfl)) $$ Hp
  ihave ⟨Hw, HwR⟩ := (held_share (F := F) c (slot wM k) fullShare (comm X (xp c))).1 $$ Hp
  ihave ⟨Hw0, Hw1⟩ := (halves_split (F := F) c wM k fullShare.left (comm X (xp c))).1 $$ Hw
  iapply (runs_send3 X K c h₄) $$ [Hw0 HLd0 HO Ht3]
  · isplitr; · iexact HR
    isplitl [Hw0]; · iexact Hw0
    isplitl [HLd0]; · iexact HLd0
    isplitl [HO]; · iexact HO
    iexact Ht3
  iintro ⟨Hs3, HO⟩
  iapply (runs_chunk X c (xp c) (quad_xp c) (f := comm X (xp c)) (M := wM) rfl (off6_at c k)) $$ [HwR Hout]
  · isplitl [HwR] <;> iassumption
  iintro ⟨HwR, Hout⟩
  iapply Hk
  unfold after
  isplitr [HO Hout]
  · isplitl [Hs1 Hs2 Hs3 Hs4]
    · isplitl [Hs1]; · iexact Hs1
      isplitl [Hs2]; · iexact Hs2
      isplitl [Hs3] <;> iassumption
    isplitl [Ha0 Ha1 Ha2]
    · isplitl [Ha0]; · iexact Ha0
      isplitl [Ha1]; · iexact Ha1
      iexact Ha2
    isplitl [HpC]; · iexact HpC
    isplitl [Hz0 HzR]; · isplitl [Hz0] <;> iassumption
    isplitl [Hw1] <;> iassumption
  isplitl [HO]; · iexact HO
  iexact Hout

/-! ## A chunk from across -/

/-- The chunk from across: both its halves are waited for, and one more part of the result is right. -/
theorem runs_across {k : Fin 3} {D : List ℕ} {rest : TProg F} :
    iprop(recs X K ∗ (recvTok (F := F) c 3 k ∗ recvTok (F := F) c 4 k) ∗ owesE c [] ∗ outPts X c D)
      ⊢ iprop((((at1 (F := F) c (rj 3) k ∗ at1 (F := F) c (rj 4) k ∗ held c (slot dM k) fullShare (comm X (xp (zp c)))) ∗ owesE c []
            ∗ outPts X c (blk (xp (zp c)) k :: D)) -∗ runs c rest Q)
          -∗ runs c (across c k rest) Q) := by
  unfold across recvTok
  iintro ⟨#HR, ⟨⟨Hc3, Ha3⟩, Hc4, Ha4⟩, HO, Hout⟩ Hk
  iapply (runs_waitHalf X K c (j := 7) (by decide) (l := []) (fun i hi => absurd hi List.not_mem_nil)) $$ [Hc3 Ha3 HO]
  · isplitr; · iexact HR
    isplitl [Hc3]; · iexact Hc3
    isplitl [Ha3]; · iexact Ha3
    iexact HO
  iintro ⟨Ha3, Hp0, HO⟩
  iapply (runs_waitHalf X K c (j := 9) (by decide) (l := []) (fun i hi => absurd hi List.not_mem_nil)) $$ [Hc4 Ha4 HO]
  · isplitr; · iexact HR
    isplitl [Hc4]; · iexact Hc4
    isplitl [Ha4]; · iexact Ha4
    iexact HO
  iintro ⟨Ha4, Hp1, HO⟩
  ihave Hp0 := (Entails.of_eq (show pay X c 7 k = held c (half dM k 0) fullShare (comm X (xp (zp c))) from rfl)) $$ Hp0
  ihave Hp1 := (Entails.of_eq (show pay X c 9 k = held c (half dM k 1) fullShare (comm X (xp (zp c))) from rfl)) $$ Hp1
  ihave Hd := (halves_split (F := F) c dM k fullShare (comm X (xp (zp c)))).2 $$ [Hp0 Hp1]
  · isplitl [Hp0]; · iexact Hp0
    iexact Hp1
  iapply (runs_chunk X c (xp (zp c)) (quad_xz c) (f := comm X (xp (zp c))) (M := dM) rfl (off7_at c k)) $$ [Hd Hout]
  · isplitl [Hd] <;> iassumption
  iintro ⟨Hd, Hout⟩
  iapply Hk
  isplitl [Ha3 Ha4 Hd]
  · isplitl [Ha3]; · iexact Ha3
    isplitl [Ha4]; · iexact Ha4
    iexact Hd
  isplitl [HO] <;> iassumption

/-! ## The waits for what was sent -/

/-- One of them: a wait on a semaphore of any array. -/
theorem runs_waited (j : Fin 10) (k : Fin 3) {rest : TProg F} :
    iprop(recs X K ∗ crd (F := F) c j k ∗ at0 (F := F) c j k ∗ owesE c [])
      ⊢ iprop(((at1 (F := F) c j k ∗ pay X c j k ∗ owesE c []) -∗ runs c rest Q)
          -∗ runs c (if j.val < 6 then waitSlot cM j k rest else waitHalf j k rest) Q) := by
  split
  · rename_i h
    exact runs_waitSlot X K c h fun i hi => absurd hi List.not_mem_nil
  · rename_i h
    exact runs_waitHalf X K c h fun i hi => absurd hi List.not_mem_nil
/-- Each wait hands back what was lent, and its cell is done. -/
theorem runs_waits {rest : TProg F} : ∀ (l : List (Fin 10 × Fin 3)),
    iprop(recs X K ∗ (bigSepL l fun p => iprop(crd (F := F) c p.1 p.2 ∗ at0 (F := F) c p.1 p.2)) ∗ owesE c [])
      ⊢ iprop((((bigSepL l fun p => iprop(at1 (F := F) c p.1 p.2 ∗ pay X c p.1 p.2)) ∗ owesE c []) -∗ runs c rest Q) -∗ runs c (waits l rest) Q)
  | [] => by
    iintro ⟨#HR, Hl, HO⟩ Hk
    iapply Hk
    isplitl [Hl]; · iexact Hl
    iexact HO
  | (j, k) :: l => by
    have ih := runs_waits (rest := rest) l
    rw [show (bigSepL ((j, k) :: l) fun p => iprop(crd (F := F) c p.1 p.2 ∗ at0 (F := F) c p.1 p.2))
        = iprop((crd (F := F) c j k ∗ at0 (F := F) c j k) ∗ bigSepL l fun p => iprop(crd (F := F) c p.1 p.2 ∗ at0 (F := F) c p.1 p.2)) from bigSepL_cons _ _ _,
      show (bigSepL ((j, k) :: l) fun p => iprop(at1 (F := F) c p.1 p.2 ∗ pay X c p.1 p.2))
        = iprop((at1 (F := F) c j k ∗ pay X c j k) ∗ bigSepL l fun p => iprop(at1 (F := F) c p.1 p.2 ∗ pay X c p.1 p.2)) from bigSepL_cons _ _ _]
    iintro ⟨#HR, ⟨⟨Hc, Ha⟩, Hl⟩, HO⟩ Hk
    iapply (runs_waited X K c j k) $$ [Hc Ha HO]
    · isplitr; · iexact HR
      isplitl [Hc]; · iexact Hc
      isplitl [Ha]; · iexact Ha
      iexact HO
    iintro ⟨Ha, Hp, HO⟩
    iapply ih $$ [Hl HO]
    · isplitr; · iexact HR
      isplitl [Hl]; · iexact Hl
      iexact HO
    iintro ⟨Hl, HO⟩
    iapply Hk
    isplitl [Ha Hp Hl]
    · isplitl [Ha Hp]
      · isplitl [Ha]; · iexact Ha
        iexact Hp
      iexact Hl
    iexact HO

end Cert.Reshard

end
-- ==== Proof.Walk.lean ====
/-
# The whole body

From what the launch gives a device to what it has in the end: the handshake, the copies along `y`, the three phases,
the chunks from across, the waits for what was sent. In the end every lent share is back, so the staged `x` and the four
landing buffers are whole again, and the result holds all sixteen of its parts.
-/
module

public import proofs.«01_k».proof.Proof.Phases

@[expose] public section

noncomputable section

namespace Cert.Reshard

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x2048.Idx → Elt F .f32) (K : Dev nD × CI → ℕ) (c : Dev nD)
variable {Q : PUnit → sProp (MT nD τ sig Unit (Elt F) ℕ UU ℕ)}

omit [FloatOps F] in
/-- A family over three, written out. -/
theorem three (Φ : Fin 3 → sProp 𝕄) : bigSep Finset.univ Φ = iprop(Φ 0 ∗ Φ 1 ∗ Φ 2) :=
  bigSep_univ_eq_bigSepL [0, 1, 2] (by decide) (by decide) Φ
omit [FloatOps F] in
/-- A family over five, written out. -/
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## The handshake -/

/-- A device's own landing places: those for chunks along `y`, for the `z` and the `x` neighbour. -/
def ownY : sProp 𝕄 := bigSep Finset.univ fun k : Fin 3 => free (F := F) c (slot cM k)
/-- Those for the `z` neighbour. -/
def ownZ : sProp 𝕄 := bigSep Finset.univ fun k : Fin 3 => iprop(free (F := F) c (slot zM k) ∗ free (F := F) c (half dM k 0))
/-- Those for the `x` neighbour. -/
def ownX : sProp 𝕄 := bigSep Finset.univ fun k : Fin 3 => iprop(free (F := F) c (slot wM k) ∗ free (F := F) c (half dM k 1))
/-- The landing places on the devices along `y` that this device sends to. -/
def peersY : sProp 𝕄 := bigSep Finset.univ fun k : Fin 3 => free (F := F) (yp (k.val + 1) c) (slot cM k)

omit [FloatOps F] in
/-- What the device pays its `z` neighbour with is its landing places for it; -/
theorem barPay_z : barPay (F := F) (bpeer 3 c) 3 = ownZ c := by
  show (bigSep Finset.univ fun k : Fin 3 => iprop(free (F := F) (zp (zp c)) (slot zM k) ∗ free (F := F) (zp (zp c)) (half dM k 0))) = _
  rw [zp_zp]; rfl
omit [FloatOps F] in
/-- likewise its `x` neighbour, -/
theorem barPay_x : barPay (F := F) (bpeer 4 c) 4 = ownX c := by
  show (bigSep Finset.univ fun k : Fin 3 => iprop(free (F := F) (xp (xp c)) (slot wM k) ∗ free (F := F) (xp (xp c)) (half dM k 1))) = _
  rw [xp_xp]; rfl
omit [FloatOps F] in
/-- and the three along `y`. -/
theorem barPay_y : iprop(barPay (F := F) (bpeer 0 c) 0 ∗ barPay (F := F) (bpeer 1 c) 1 ∗ barPay (F := F) (bpeer 2 c) 2) = ownY c := by
  show iprop(free (F := F) (yp 1 (ym 1 c)) (slot cM 0) ∗ free (F := F) (yp 2 (ym 2 c)) (slot cM 1) ∗ free (F := F) (yp 3 (ym 3 c)) (slot cM 2)) = _
  rw [show yp 1 (ym 1 c) = c from yp_ym 0 c, show yp 2 (ym 2 c) = c from yp_ym 1 c, show yp 3 (ym 3 c) = c from yp_ym 2 c]
  exact (three fun k : Fin 3 => free (F := F) c (slot cM k)).symm
omit [FloatOps F] in
/-- What the five neighbours pay with, sorted. -/
theorem barPay_all : bigSep Finset.univ (barPay (F := F) c) ⊢ iprop(peersY c ∗ bigSep Finset.univ fun k : Fin 3 => landing (F := F) c k) := by
  unfold peersY landing
  rw [five, three, bigSep_sep']
  show iprop(free (F := F) (yp 1 c) (slot cM 0) ∗ free (F := F) (yp 2 c) (slot cM 1) ∗ free (F := F) (yp 3 c) (slot cM 2)
    ∗ (bigSep Finset.univ fun k : Fin 3 => iprop(free (F := F) (zp c) (slot zM k) ∗ free (F := F) (zp c) (half dM k 0)))
    ∗ bigSep Finset.univ fun k : Fin 3 => iprop(free (F := F) (xp c) (slot wM k) ∗ free (F := F) (xp c) (half dM k 1))) ⊢ _
  iintro ⟨H0, H1, H2, HZ, HX⟩
  isplitl [H0 H1 H2]
  · isplitl [H0]; · iexact H0
    isplitl [H1]; · iexact H1
    iexact H2
  isplitl [HZ]; · iexact HZ
  iexact HX

/-- The device has the leave to write of its five neighbours and has given them its own. -/
theorem runs_handshake {n₁ n₂ n₃ n₄ n₅ : Dev nD} (h₁ : n₁ = ym 3 c) (h₂ : n₂ = ym 2 c) (h₃ : n₃ = ym 1 c) (h₄ : n₄ = zp c) (h₅ : n₅ = xp c)
    {l : List Item} (hl : ∀ i ∈ l, 1 < lev i) {rest : TProg F} :
    iprop(recs X K ∗ (ownY (F := F) c ∗ ownZ (F := F) c ∗ ownX (F := F) c)
        ∗ (bigSep Finset.univ fun d : Fin 5 => (dutyTok ER (barCell (bpeer d c)) 0 d : sProp 𝕄))
        ∗ (cred (tallyAt (barCell c) () 5) ∗ atPos ER (barCell c) 0 ∅ 0)
        ∗ owesE c ([.bar 2, .bar 1, .bar 0, .bar 3, .bar 4] ++ l))
      ⊢ iprop(((atPos ER (barCell c) 1 ∅ 0 ∗ (peersY (F := F) c ∗ bigSep Finset.univ fun k : Fin 3 => landing (F := F) c k) ∗ owesE c l) -∗ runs c rest Q)
          -∗ runs c (handshake n₁ n₂ n₃ n₄ n₅ rest) Q) := by
  unfold handshake
  rw [five, ← barPay_y, ← barPay_z, ← barPay_x]
  iintro ⟨#HR, ⟨⟨HP0, HP1, HP2⟩, HP3, HP4⟩, ⟨Ht0, Ht1, Ht2, Ht3, Ht4⟩, ⟨Hc, Ha⟩, HO⟩ Hk
  iapply (runs_signal X K c (d := 2) h₁ (l := [.bar 1, .bar 0, .bar 3, .bar 4] ++ l)) $$ [HP2 HO Ht2]
  · isplitr; · iexact HR
    isplitl [HP2]; · iexact HP2
    isplitl [HO]; · iexact HO
    iexact Ht2
  iintro HO
  iapply (runs_signal X K c (d := 1) h₂ (l := [.bar 0, .bar 3, .bar 4] ++ l)) $$ [HP1 HO Ht1]
  · isplitr; · iexact HR
    isplitl [HP1]; · iexact HP1
    isplitl [HO]; · iexact HO
    iexact Ht1
  iintro HO
  iapply (runs_signal X K c (d := 0) h₃ (l := [.bar 3, .bar 4] ++ l)) $$ [HP0 HO Ht0]
  · isplitr; · iexact HR
    isplitl [HP0]; · iexact HP0
    isplitl [HO]; · iexact HO
    iexact Ht0
  iintro HO
  iapply (runs_signal X K c (d := 3) h₄ (l := [.bar 4] ++ l)) $$ [HP3 HO Ht3]
  · isplitr; · iexact HR
    isplitl [HP3]; · iexact HP3
    isplitl [HO]; · iexact HO
    iexact Ht3
  iintro HO
  iapply (runs_signal X K c (d := 4) h₅ (l := l)) $$ [HP4 HO Ht4]
  · isplitr; · iexact HR
    isplitl [HP4]; · iexact HP4
    isplitl [HO]; · iexact HO
    iexact Ht4
  iintro HO
  iapply (runs_barrier X K c hl) $$ [Hc Ha HO]
  · isplitr; · iexact HR
    isplitl [Hc]; · iexact Hc
    isplitl [Ha]; · iexact Ha
    iexact HO
  iintro ⟨Ha, Hp, HO⟩
  ihave Hp := (barPay_all (F := F) c) $$ Hp
  iapply Hk
  isplitl [Ha]; · iexact Ha
  isplitl [Hp]; · iexact Hp
  iexact HO

/-! ## The copies along `y` -/

/-- What the copies along `y` are lent of the staged `x`, -/
def lentX : sProp 𝕄 := bigSep Finset.univ fun k : Fin 3 => held c (part c k) (qx k) (X c)
/-- and what stays with the device meanwhile. -/
def keptX : sProp 𝕄 :=
  iprop(held c xM fullShare.left (X c)
    ∗ bigSep Finset.univ fun k : Fin 3 => (xM.view.loc (c : Thread nD τ) ↦[xM.view.set \ (part c k).view.set]{qx k} (X c)))

omit [FloatOps F] in
/-- The staged `x` is what the device keeps of it and what the copies along `y` are lent. -/
theorem split_x : held c xM fullShare (X c) ⊣⊢ iprop(keptX X c ∗ lentX X c) := by
  have hk : ∀ k : Fin 3, held c xM (qx k) (X c) ⊣⊢ iprop(held c (part c k) (qx k) (X c)
      ∗ (xM.view.loc (c : Thread nD τ) ↦[xM.view.set \ (part c k).view.set]{qx k} (X c) : sProp 𝕄)) := fun k => by
    unfold held
    refine pointsTo_split_subset ?_
    rw [show (xM.view.set : Finset _) = Finset.univ from View.set_whole _]
    exact Finset.subset_univ _
  unfold keptX lentX
  have h1 := held_share (F := F) c xM fullShare (X c)
  have h2 := held_share (F := F) c xM fullShare.right (X c)
  have h3 := held_share (F := F) c xM fullShare.right.right (X c)
  have h4 := hk 0
  have h5 := hk 1
  have h6 := hk 2
  rw [three, three]
  unfold qx at h4 h5 h6 ⊢
  dsimp only at h4 h5 h6 ⊢
  constructor
  · iintro H
    ihave ⟨HL, H⟩ := h1.1 $$ H
    ihave ⟨H0, H⟩ := h2.1 $$ H
    ihave ⟨H1, H2⟩ := h3.1 $$ H
    ihave ⟨H0, H0'⟩ := h4.1 $$ H0
    ihave ⟨H1, H1'⟩ := h5.1 $$ H1
    ihave ⟨H2, H2'⟩ := h6.1 $$ H2
    isplitl [HL H0' H1' H2']
    · isplitl [HL]; · iexact HL
      isplitl [H0']; · iexact H0'
      isplitl [H1']; · iexact H1'
      iexact H2'
    isplitl [H0]; · iexact H0
    isplitl [H1]; · iexact H1
    iexact H2
  · iintro ⟨⟨HL, H0', H1', H2'⟩, H0, H1, H2⟩
    ihave H0 := h4.2 $$ [H0 H0']
    · isplitl [H0]; · iexact H0
      iexact H0'
    ihave H1 := h5.2 $$ [H1 H1']
    · isplitl [H1]; · iexact H1
      iexact H1'
    ihave H2 := h6.2 $$ [H2 H2']
    · isplitl [H2]; · iexact H2
      iexact H2'
    iapply h1.2
    isplitl [HL]; · iexact HL
    iapply h2.2
    isplitl [H0]; · iexact H0
    iapply h3.2
    isplitl [H1]; · iexact H1
    iexact H2

/-- The three copies along `y`: each takes the share of `x` lent to it and the leave to write, and leaves the credit for the wait. -/
theorem runs_sendParts {n₀ n₁ n₂ : Dev nD} (h₀ : n₀ = yp 1 c) (h₁ : n₁ = yp 2 c) (h₂ : n₂ = yp 3 c) {l : List Item} {rest : TProg F} :
    iprop(recs X K ∗ lentX X c ∗ peersY (F := F) c ∗ (bigSep Finset.univ fun k : Fin 3 => toks (F := F) c 0 k)
        ∗ owesE c (((List.finRange 3).map fun k => .send 0 k) ++ l))
      ⊢ iprop((((bigSep Finset.univ fun k : Fin 3 => crd (F := F) c (sj 0) k) ∗ owesE c l) -∗ runs c rest Q)
          -∗ runs c (sendPart c n₀ 0 <| sendPart c n₁ 1 <| sendPart c n₂ 2 rest) Q) := by
  unfold lentX peersY
  rw [three, three, three, three]
  iintro ⟨#HR, ⟨Hx0, Hx1, Hx2⟩, ⟨Hf0, Hf1, Hf2⟩, ⟨Ht0, Ht1, Ht2⟩, HO⟩ Hk
  iapply (runs_sendPart X K c (k := 0) h₀ (l := [.send 0 1, .send 0 2] ++ l)) $$ [Hx0 Hf0 HO Ht0]
  · isplitr; · iexact HR
    isplitl [Hx0]; · iexact Hx0
    isplitl [Hf0]; · iexact Hf0
    isplitl [HO]; · iexact HO
    iexact Ht0
  iintro ⟨Hc0, HO⟩
  iapply (runs_sendPart X K c (k := 1) h₁ (l := [.send 0 2] ++ l)) $$ [Hx1 Hf1 HO Ht1]
  · isplitr; · iexact HR
    isplitl [Hx1]; · iexact Hx1
    isplitl [Hf1]; · iexact Hf1
    isplitl [HO]; · iexact HO
    iexact Ht1
  iintro ⟨Hc1, HO⟩
  iapply (runs_sendPart X K c (k := 2) h₂ (l := l)) $$ [Hx2 Hf2 HO Ht2]
  · isplitr; · iexact HR
    isplitl [Hx2]; · iexact Hx2
    isplitl [Hf2]; · iexact Hf2
    isplitl [HO]; · iexact HO
    iexact Ht2
  iintro ⟨Hc2, HO⟩
  iapply Hk
  isplitr [HO]
  · isplitl [Hc0]; · iexact Hc0
    isplitl [Hc1]; · iexact Hc1
    iexact Hc2
  iexact HO

/-! ## The three phases and the chunks from across -/

/-- The phases' copies are those of phases 0, 1 and 2. -/
theorem items_eq : itemsFrom 0 = phaseItems 0 ++ (phaseItems 1 ++ (phaseItems 2 ++ [])) := rfl
/-- A phase's copies lie above any level below `3 + k`. -/
theorem lev_phaseItems {k : Fin 3} {n : ℕ} (h : n < 3 + k.val) : ∀ i ∈ phaseItems k, n < lev i := by
  intro i hi
  simp only [phaseItems, List.mem_cons, List.not_mem_nil, or_false] at hi
  rcases hi with rfl | rfl | rfl | rfl <;> simp [lev, levelOf, rj] <;> omega

/-- The three phases. -/
theorem runs_phases {n : Fin 15 → Dev nD} (h : n = ![yp 1 c, yp 2 c, yp 3 c, zp c, xp c, xp c, zp c, zp c, xp c, xp c, zp c, zp c, xp c, xp c, zp c])
    {D : List ℕ} {rest : TProg F} :
    iprop(recs X K ∗ (bigSep Finset.univ fun k : Fin 3 => before (F := F) c k) ∗ owesE c (itemsFrom 0) ∗ outPts X c D)
      ⊢ iprop((((bigSep Finset.univ fun k : Fin 3 => after X c k) ∗ owesE c []
            ∗ outPts X c ((List.finRange 3).reverse.flatMap (fun k => [blk (xp c) k, blk (zp c) k, blk c k]) ++ D)) -∗ runs c rest Q)
          -∗ runs c (phase c 0 (n 3) (n 4) (n 5) (n 6) <| phase c 1 (n 7) (n 8) (n 9) (n 10) <| phase c 2 (n 11) (n 12) (n 13) (n 14) rest) Q) := by
  subst h
  rw [three, three, items_eq]
  iintro ⟨#HR, ⟨H0, H1, H2⟩, HO, Hout⟩ Hk
  iapply (runs_phase X K c (k := 0) rfl rfl rfl rfl (l := phaseItems 1 ++ (phaseItems 2 ++ [])) (fun i hi => by
      rcases List.mem_append.mp hi with hi | hi
      · exact lev_phaseItems (by decide) i hi
      · exact lev_phaseItems (by decide) i ((List.append_nil _) ▸ hi))) $$ [H0 HO Hout]
  · isplitr; · iexact HR
    isplitl [H0]; · iexact H0
    isplitl [HO]; · iexact HO
    iexact Hout
  iintro ⟨H0, HO, Hout⟩
  iapply (runs_phase X K c (k := 1) rfl rfl rfl rfl (l := phaseItems 2 ++ [])
      (fun i hi => lev_phaseItems (by decide) i ((List.append_nil _) ▸ hi))) $$ [H1 HO Hout]
  · isplitr; · iexact HR
    isplitl [H1]; · iexact H1
    isplitl [HO]; · iexact HO
    iexact Hout
  iintro ⟨H1, HO, Hout⟩
  iapply (runs_phase X K c (k := 2) rfl rfl rfl rfl (l := []) (fun i hi => absurd hi List.not_mem_nil)) $$ [H2 HO Hout]
  · isplitr; · iexact HR
    isplitl [H2]; · iexact H2
    isplitl [HO]; · iexact HO
    iexact Hout
  iintro ⟨H2, HO, Hout⟩
  iapply Hk
  isplitr [HO Hout]
  · isplitl [H0]; · iexact H0
    isplitl [H1]; · iexact H1
    iexact H2
  isplitl [HO]; · iexact HO
  iexact Hout

/-- What is left when a chunk from across has been stored. -/
def crossed (k : Fin 3) : sProp 𝕄 :=
  iprop(at1 (F := F) c (rj 3) k ∗ at1 (F := F) c (rj 4) k ∗ held c (slot dM k) fullShare (comm X (xp (zp c))))

/-- The three chunks from across. -/
theorem runs_acrosses {D : List ℕ} {rest : TProg F} :
    iprop(recs X K ∗ (bigSep Finset.univ fun k : Fin 3 => iprop(recvTok (F := F) c 3 k ∗ recvTok (F := F) c 4 k)) ∗ owesE c [] ∗ outPts X c D)
      ⊢ iprop((((bigSep Finset.univ fun k : Fin 3 => crossed X c k) ∗ owesE c []
            ∗ outPts X c ((List.finRange 3).reverse.map (blk (xp (zp c))) ++ D)) -∗ runs c rest Q)
          -∗ runs c (across c 0 <| across c 1 <| across c 2 rest) Q) := by
  rw [three, three]
  unfold crossed
  iintro ⟨#HR, ⟨H0, H1, H2⟩, HO, Hout⟩ Hk
  iapply (runs_across X K c (k := 0)) $$ [H0 HO Hout]
  · isplitr; · iexact HR
    isplitl [H0]; · iexact H0
    isplitl [HO]; · iexact HO
    iexact Hout
  iintro ⟨H0, HO, Hout⟩
  iapply (runs_across X K c (k := 1)) $$ [H1 HO Hout]
  · isplitr; · iexact HR
    isplitl [H1]; · iexact H1
    isplitl [HO]; · iexact HO
    iexact Hout
  iintro ⟨H1, HO, Hout⟩
  iapply (runs_across X K c (k := 2)) $$ [H2 HO Hout]
  · isplitr; · iexact HR
    isplitl [H2]; · iexact H2
    isplitl [HO]; · iexact HO
    iexact Hout
  iintro ⟨H2, HO, Hout⟩
  iapply Hk
  isplitr [HO Hout]
  · isplitl [H0]; · iexact H0
    isplitl [H1]; · iexact H1
    iexact H2
  isplitl [HO]; · iexact HO
  iexact Hout

/-! ## The waits for what was sent -/

/-- The sending semaphores, numbered by phase and kind. -/
def sentEmb : Fin 3 × Fin 5 ↪ Fin 10 × Fin 3 := ⟨fun q => (sj q.2, q.1), by decide⟩

omit [FloatOps F] in
/-- The list of the sending semaphores names each once. -/
theorem sentList_eq (Φ : Fin 10 → Fin 3 → sProp 𝕄) :
    (bigSepL sentList fun p => Φ p.1 p.2) = bigSep Finset.univ fun k : Fin 3 => bigSep Finset.univ fun s : Fin 5 => Φ (sj s) k := by
  rw [← bigSep_univ_prod (fun q : Fin 3 × Fin 5 => Φ (sj q.2) q.1),
    ← bigSep_eq_bigSepL_of_eq (S := Finset.univ.map sentEmb) sentList (by decide) (by decide) fun p => Φ p.1 p.2, bigSep_map]
  rfl

/-- All waits for what was sent: everything lent comes back. -/
theorem runs_sents {rest : TProg F} :
    iprop(recs X K ∗ (bigSep Finset.univ fun k : Fin 3 => bigSep Finset.univ fun s : Fin 5 => sentTok (F := F) c s k) ∗ owesE c [])
      ⊢ iprop((((bigSep Finset.univ fun k : Fin 3 => bigSep Finset.univ fun s : Fin 5 => iprop(at1 (F := F) c (sj s) k ∗ pay X c (sj s) k)) ∗ owesE c [])
            -∗ runs c rest Q)
          -∗ runs c (waits sentList rest) Q) := by
  have h := runs_waits X K c (Q := Q) (rest := rest) sentList
  rw [sentList_eq (fun j k => iprop(crd (F := F) c j k ∗ at0 (F := F) c j k)),
    sentList_eq (fun j k => iprop(at1 (F := F) c j k ∗ pay X c j k))] at h
  exact h

/-! ## What is whole again in the end -/

/-- The landing buffers' slots when everything lent is back. -/
def back (k : Fin 3) : sProp 𝕄 :=
  iprop(held c (slot cM k) fullShare (comm X c) ∗ held c (slot zM k) fullShare (comm X (zp c)) ∗ held c (slot wM k) fullShare (comm X (xp c)))

omit [FloatOps F] in
/-- What came back and what was kept of one phase's three chunks make their slots whole. -/
theorem rejoin (k : Fin 3) :
    iprop((pay X c (sj 1) k ∗ pay X c (sj 2) k ∗ pay X c (sj 3) k ∗ pay X c (sj 4) k)
      ∗ held c (slot cM k) fullShare.right.right (comm X c)
      ∗ (held c (half zM k 0) fullShare.left (comm X (zp c)) ∗ held c (slot zM k) fullShare.right (comm X (zp c)))
      ∗ (held c (half wM k 1) fullShare.left (comm X (xp c)) ∗ held c (slot wM k) fullShare.right (comm X (xp c)))) ⊢ back X c k := by
  rw [show pay X c (sj 1) k = held c (slot cM k) fullShare.left (comm X c) from rfl,
    show pay X c (sj 2) k = held c (slot cM k) fullShare.right.left (comm X c) from rfl,
    show pay X c (sj 3) k = held c (half wM k 0) fullShare.left (comm X (xp c)) from rfl,
    show pay X c (sj 4) k = held c (half zM k 1) fullShare.left (comm X (zp c)) from rfl]
  unfold back
  iintro ⟨⟨H1, H2, H3, H4⟩, HC, ⟨HZ, HZR⟩, HW, HWR⟩
  isplitl [H1 H2 HC]
  · iapply (held_share (F := F) c (slot cM k) fullShare (comm X c)).2
    isplitl [H1]; · iexact H1
    iapply (held_share (F := F) c (slot cM k) fullShare.right (comm X c)).2
    isplitl [H2]; · iexact H2
    iexact HC
  isplitl [H4 HZ HZR]
  · iapply (held_share (F := F) c (slot zM k) fullShare (comm X (zp c))).2
    isplitr [HZR]
    · iapply (halves_split (F := F) c zM k fullShare.left (comm X (zp c))).2
      isplitl [HZ]; · iexact HZ
      iexact H4
    iexact HZR
  · iapply (held_share (F := F) c (slot wM k) fullShare (comm X (xp c))).2
    isplitr [HWR]
    · iapply (halves_split (F := F) c wM k fullShare.left (comm X (xp c))).2
      isplitl [H3]; · iexact H3
      iexact HW
    iexact HWR

/-! ## The body from start to end -/

/-- Phase `k`'s share of the tokens and positions: for each kind the tokens of the copy, what its arrival is waited for
    with, and where its sending cell stands. -/
def deal (k : Fin 3) : sProp 𝕄 :=
  iprop((bigSep Finset.univ fun s : Fin 5 => toks (F := F) c s k) ∗ (bigSep Finset.univ fun s : Fin 5 => recvTok (F := F) c s k)
    ∗ (bigSep Finset.univ fun s : Fin 5 => at0 (F := F) c (sj s) k))
/-- All ten cells of phase `k` are done. -/
def done (k : Fin 3) : sProp 𝕄 :=
  iprop((bigSep Finset.univ fun s : Fin 5 => at1 (F := F) c (sj s) k) ∗ (bigSep Finset.univ fun s : Fin 5 => at1 (F := F) c (rj s) k))

/-- The part of it that the phase itself uses. -/
def dealPhase (k : Fin 3) : sProp 𝕄 :=
  iprop((toks (F := F) c 1 k ∗ toks (F := F) c 2 k ∗ toks (F := F) c 3 k ∗ toks (F := F) c 4 k)
    ∗ (recvTok (F := F) c 0 k ∗ recvTok (F := F) c 1 k ∗ recvTok (F := F) c 2 k))

omit [FloatOps F] in
/-- What a device was dealt, sorted by the part of the body that uses it. -/
theorem deal_split : (bigSep Finset.univ fun k : Fin 3 => deal (F := F) c k)
    ⊢ iprop((bigSep Finset.univ fun k : Fin 3 => toks (F := F) c 0 k) ∗ (bigSep Finset.univ fun k : Fin 3 => dealPhase (F := F) c k)
      ∗ (bigSep Finset.univ fun k : Fin 3 => iprop(recvTok (F := F) c 3 k ∗ recvTok (F := F) c 4 k))
      ∗ (bigSep Finset.univ fun k : Fin 3 => bigSep Finset.univ fun s : Fin 5 => at0 (F := F) c (sj s) k)) := by
  rw [← bigSep_sep', ← bigSep_sep', ← bigSep_sep']
  refine bigSep_mono fun k _ => ?_
  unfold deal dealPhase
  rw [five fun s => toks (F := F) c s k, five fun s => recvTok (F := F) c s k]
  show (_ : sProp 𝕄) ⊢ _
  iintro ⟨⟨H0, HT⟩, ⟨R0, R1, R2, R3, R4⟩, HA⟩
  isplitl [H0]; · iexact H0
  isplitl [HT R0 R1 R2]
  · isplitl [HT]; · iexact HT
    isplitl [R0]; · iexact R0
    isplitl [R1]; · iexact R1
    iexact R2
  isplitl [R3 R4]
  · isplitl [R3]; · iexact R3
    iexact R4
  iexact HA

omit [FloatOps F] in
/-- The landing places of the neighbours and a phase's share of what was dealt are what the phase needs. -/
theorem before_intro : iprop((bigSep Finset.univ fun k : Fin 3 => landing (F := F) c k) ∗ bigSep Finset.univ fun k : Fin 3 => dealPhase (F := F) c k)
    ⊢ bigSep Finset.univ fun k : Fin 3 => before (F := F) c k := by
  rw [← bigSep_sep']
  exact bigSep_mono fun k _ => Entails.refl _

/-- What phase `k` leaves beside the credits. -/
def rest (k : Fin 3) : sProp 𝕄 :=
  iprop((at1 (F := F) c (rj 0) k ∗ at1 (F := F) c (rj 1) k ∗ at1 (F := F) c (rj 2) k)
    ∗ held c (slot cM k) fullShare.right.right (comm X c)
    ∗ (held c (half zM k 0) fullShare.left (comm X (zp c)) ∗ held c (slot zM k) fullShare.right (comm X (zp c)))
    ∗ (held c (half wM k 1) fullShare.left (comm X (xp c)) ∗ held c (slot wM k) fullShare.right (comm X (xp c))))

omit [FloatOps F] in
/-- The credits of all the copies, with where the sending cells stand. -/
theorem sent_intro : iprop((bigSep Finset.univ fun k : Fin 3 => crd (F := F) c (sj 0) k) ∗ (bigSep Finset.univ fun k : Fin 3 => after X c k)
      ∗ (bigSep Finset.univ fun k : Fin 3 => bigSep Finset.univ fun s : Fin 5 => at0 (F := F) c (sj s) k))
    ⊢ iprop((bigSep Finset.univ fun k : Fin 3 => bigSep Finset.univ fun s : Fin 5 => sentTok (F := F) c s k) ∗ bigSep Finset.univ fun k : Fin 3 => rest X c k) := by
  rw [← bigSep_sep', ← bigSep_sep', ← bigSep_sep']
  refine bigSep_mono fun k _ => ?_
  unfold after rest sentTok
  rw [bigSep_sep', five fun s => crd (F := F) c (sj s) k]
  show (_ : sProp 𝕄) ⊢ _
  iintro ⟨H0, ⟨HC, HR⟩, HA⟩
  isplitl [H0 HC HA]
  · isplitl [H0 HC]
    · isplitl [H0]; · iexact H0
      iexact HC
    iexact HA
  iexact HR

omit [FloatOps F] in
/-- Everything back. -/
theorem back_intro : iprop((bigSep Finset.univ fun k : Fin 3 => bigSep Finset.univ fun s : Fin 5 => iprop(at1 (F := F) c (sj s) k ∗ pay X c (sj s) k))
      ∗ (bigSep Finset.univ fun k : Fin 3 => rest X c k) ∗ (bigSep Finset.univ fun k : Fin 3 => crossed X c k))
    ⊢ iprop((bigSep Finset.univ fun k : Fin 3 => done (F := F) c k) ∗ lentX X c ∗ (bigSep Finset.univ fun k : Fin 3 => back X c k)
      ∗ (bigSep Finset.univ fun k : Fin 3 => held c (slot dM k) fullShare (comm X (xp (zp c))))) := by
  unfold lentX
  rw [← bigSep_sep', ← bigSep_sep', ← bigSep_sep', ← bigSep_sep', ← bigSep_sep']
  refine bigSep_mono fun k _ => ?_
  unfold rest done crossed
  rw [bigSep_sep', five fun s => pay X c (sj s) k, five fun s => at1 (F := F) c (rj s) k]
  show (_ : sProp 𝕄) ⊢ _
  iintro ⟨⟨HA, HP0, HP⟩, ⟨⟨A0, A1, A2⟩, HR⟩, A3, A4, HD⟩
  isplitl [HA A0 A1 A2 A3 A4]
  · isplitl [HA]; · iexact HA
    isplitl [A0]; · iexact A0
    isplitl [A1]; · iexact A1
    isplitl [A2]; · iexact A2
    isplitl [A3]; · iexact A3
    iexact A4
  isplitl [HP0]
  · iapply (Entails.of_eq (show pay X c (sj 0) k = held c (part c k) (qx k) (X c) from rfl)); iexact HP0
  isplitl [HP HR]
  · iapply (rejoin X c k)
    isplitl [HP]; · iexact HP
    iexact HR
  iexact HD

omit [FloatOps F] in
/-- The slots of all phases make the landing buffers whole. -/
theorem back_whole : (bigSep Finset.univ fun k : Fin 3 => back X c k)
    = iprop(held c cM fullShare (comm X c) ∗ held c zM fullShare (comm X (zp c)) ∗ held c wM fullShare (comm X (xp c))) := by
  unfold back
  rw [bigSep_sep', bigSep_sep', slots_split (F := F) c cM fullShare (comm X c), slots_split (F := F) c zM fullShare (comm X (zp c)),
    slots_split (F := F) c wM fullShare (comm X (xp c))]

/-- The fifteen copies' target devices. -/
theorem nbrs_eq (c : Dev nD) : nbrs c = ![yp 1 c, yp 2 c, yp 3 c, zp c, xp c, xp c, zp c, zp c, xp c, xp c, zp c, zp c, xp c, xp c, zp c] := by
  unfold nbrs
  rw [dev6_eq, dev7_eq, dev8_eq, dev9_eq, dev10_eq, dev11_eq, dev12_eq, dev13_eq, dev14_eq, dev15_eq, dev16_eq, dev17_eq, dev18_eq, dev19_eq, dev20_eq]

/-- What the body starts from. -/
def atStart (f : S4096x512.Idx → Elt F .f32) : sProp 𝕄 :=
  iprop((ownY (F := F) c ∗ ownZ (F := F) c ∗ ownX (F := F) c)
    ∗ (bigSep Finset.univ fun d : Fin 5 => (dutyTok ER (barCell (bpeer d c)) 0 d : sProp 𝕄))
    ∗ (cred (tallyAt (barCell c) () 5) ∗ atPos ER (barCell c) 0 ∅ 0)
    ∗ (bigSep Finset.univ fun k : Fin 3 => deal (F := F) c k)
    ∗ held c xM fullShare (X c) ∗ held c oM fullShare f ∗ owesE c allItems)
/-- What it ends with. -/
def atEnd : sProp 𝕄 :=
  iprop(atPos ER (barCell c) 1 ∅ 0 ∗ (bigSep Finset.univ fun k : Fin 3 => done (F := F) c k)
    ∗ (held c cM fullShare (comm X c) ∗ held c zM fullShare (comm X (zp c)) ∗ held c wM fullShare (comm X (xp c)) ∗ held c dM fullShare (comm X (xp (zp c))))
    ∗ held c xM fullShare (X c) ∗ held c oM fullShare (full X c) ∗ owesE c [])

/-- Having read its number, the device runs the handshake and what follows, with its own number in both. -/
theorem runs_deviceId : runs c whole Q = runs c (handshake ⟨k0_dev1 c, k0_dev1_lt c⟩ ⟨k0_dev2 c, k0_dev2_lt c⟩ ⟨k0_dev3 c, k0_dev3_lt c⟩
    ⟨k0_dev4 c, k0_dev4_lt c⟩ ⟨k0_dev5 c, k0_dev5_lt c⟩ (afterHandshake c (nbrs c))) Q := by
  unfold whole
  simp only [runs, wp_deviceId]

/-- The whole body: from what a device has at the start to what it has at the end. -/
theorem runs_whole (f : S4096x512.Idx → Elt F .f32) :
    iprop(recs X K ∗ atStart X c f) ⊢ iprop((atEnd X c -∗ |={Set.univ}=> Q ⟨⟩) -∗ runs c whole Q) := by
  rw [runs_deviceId]
  unfold atStart
  iintro ⟨#HR, Hown, Hbar, Hcb, Hdeal, Hx, Hout, HO⟩ Hk
  iapply (runs_handshake X K c (dev1_eq c) (dev2_eq c) (dev3_eq c) (dev4_eq c) (dev5_eq c)
    (l := ((List.finRange 3).map fun k => .send 0 k) ++ itemsFrom 0) (by
      intro i hi
      rw [items_eq, List.append_nil] at hi
      simp only [List.mem_append] at hi
      rcases hi with hi | hi | hi | hi
      · obtain ⟨k, -, rfl⟩ := List.mem_map.mp hi; exact Nat.lt_succ_self 1
      all_goals exact lev_phaseItems (by decide) i hi)) $$ [Hown Hbar Hcb HO]
  · isplitr; · iexact HR
    isplitl [Hown]; · iexact Hown
    isplitl [Hbar]; · iexact Hbar
    isplitl [Hcb]; · iexact Hcb
    iexact HO
  iintro ⟨Hab, ⟨HpY, Hland⟩, HO⟩
  ihave ⟨Ht0, Hph, Hcr, Hsa⟩ := (deal_split (F := F) c) $$ Hdeal
  ihave ⟨Hkx, Hlx⟩ := (split_x X c).1 $$ Hx
  unfold afterHandshake
  rw [nbrs_eq]
  iapply (runs_sendParts X K c rfl rfl rfl (l := itemsFrom 0)) $$ [Hlx HpY Ht0 HO]
  · isplitr; · iexact HR
    isplitl [Hlx]; · iexact Hlx
    isplitl [HpY]; · iexact HpY
    isplitl [Ht0]; · iexact Ht0
    iexact HO
  iintro ⟨Hs0, HO⟩
  unfold keptX
  icases Hkx with ⟨HxL, Hkx⟩
  iapply (runs_own X c) $$ [HxL Hout]
  · isplitl [HxL]; · iexact HxL
    iexact Hout
  iintro ⟨HxL, Hout⟩
  ihave Hbf := (before_intro (F := F) c) $$ [Hland Hph]
  · isplitl [Hland]; · iexact Hland
    iexact Hph
  iapply (runs_phases X K c rfl) $$ [Hbf HO Hout]
  · isplitr; · iexact HR
    isplitl [Hbf]; · iexact Hbf
    isplitl [HO]; · iexact HO
    iexact Hout
  iintro ⟨Haf, HO, Hout⟩
  iapply (runs_acrosses X K c) $$ [Hcr HO Hout]
  · isplitr; · iexact HR
    isplitl [Hcr]; · iexact Hcr
    isplitl [HO]; · iexact HO
    iexact Hout
  iintro ⟨Hcr, HO, Hout⟩
  ihave ⟨Hst, Hrest⟩ := (sent_intro X c) $$ [Hs0 Haf Hsa]
  · isplitl [Hs0]; · iexact Hs0
    isplitl [Haf]; · iexact Haf
    iexact Hsa
  iapply (runs_sents X K c) $$ [Hst HO]
  · isplitr; · iexact HR
    isplitl [Hst]; · iexact Hst
    iexact HO
  iintro ⟨Hst, HO⟩
  ihave ⟨Hdone, Hlx, Hbk, Hd⟩ := (back_intro X c) $$ [Hst Hrest Hcr]
  · isplitl [Hst]; · iexact Hst
    isplitl [Hrest]; · iexact Hrest
    iexact Hcr
  ihave Hbk := (Entails.of_eq (back_whole X c)) $$ Hbk
  icases Hbk with ⟨HC, HZ, HW⟩
  ihave Hd := (Entails.of_eq (slots_split (F := F) c dM fullShare (comm X (xp (zp c)))).symm) $$ Hd
  ihave Hx := (split_x X c).2 $$ [HxL Hkx Hlx]
  · unfold keptX
    isplitr [Hlx]
    · isplitl [HxL]; · iexact HxL
      iexact Hkx
    iexact Hlx
  unfold outPts
  icases Hout with ⟨%g, %hg, Hout⟩
  rw [good_all (f := g) hg]
  unfold runs
  rw [wp_ret]
  iapply Hk
  unfold atEnd
  isplitl [Hab]; · iexact Hab
  isplitl [Hdone]; · iexact Hdone
  isplitl [HC HZ HW Hd]
  · isplitl [HC]; · iexact HC
    isplitl [HZ]; · iexact HZ
    isplitl [HW]; · iexact HW
    iexact Hd
  isplitl [Hx]; · iexact Hx
  isplitl [Hout]; · iexact Hout
  iexact HO

end Cert.Reshard

end
-- ==== Proof.Deal.lean ====
/-
# What the launch deals out

Tokens are minted with the cells and dealt to the devices that pay them; credits are what the devices together owe a cell
at the start.
-/
module

public import proofs.«01_k».proof.Proof.Walk

@[expose] public section

noncomputable section

namespace Cert.Reshard

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (X : Dev nD → S1024x2048.Idx → Elt F .f32) (c : Dev nD)

/-! ## Sorting the cells -/

/-- Each semaphore array is the sending or the receiving one of one kind of copy. -/
def sides : Fin 3 × (Fin 5 ⊕ Fin 5) → Fin 10 × Fin 3 := fun q => (Sum.elim sj rj q.2, q.1)
/-- Every semaphore is one of the sender's or one of the receiver's, in one way. -/
theorem sides_bijective : Function.Bijective sides :=
  (Fintype.bijective_iff_injective_and_card _).mpr ⟨by decide, rfl⟩

/-- A family over the thirty semaphores, as its sending and its receiving side. -/
theorem bigSep_sides (Φ : Fin 10 × Fin 3 → sProp 𝕄) : bigSep Finset.univ Φ
    = iprop((bigSep Finset.univ fun k : Fin 3 => bigSep Finset.univ fun s : Fin 5 => Φ (sj s, k))
      ∗ bigSep Finset.univ fun k : Fin 3 => bigSep Finset.univ fun s : Fin 5 => Φ (rj s, k)) := by
  rw [bigSep_univ_equiv (Equiv.ofBijective sides sides_bijective) Φ, bigSep_univ_prod, ← bigSep_sep']
  exact bigSep_congr fun k _ => bigSep_univ_sum _

/-- A family over a device's cells, as that over its thirty semaphores and the barrier's member. -/
theorem bigSep_cells (Φ : CI → sProp 𝕄) : bigSep Finset.univ Φ
    = iprop((bigSep Finset.univ fun p : Fin 10 × Fin 3 => Φ (some p)) ∗ Φ none) := by
  rw [bigSep_univ_equiv (Equiv.optionEquivSumPUnit.{0} (Fin 10 × Fin 3)).symm Φ, bigSep_univ_sum, bigSep_univ_of_subsingleton PUnit.unit]
  rfl

/-! ## The tokens -/

/-- No two devices pay the same duty of the same barrier. -/
theorem bpeer_injective : ∀ d : Fin 5, Function.Injective (bpeer d)
  | 0 => Function.LeftInverse.injective (g := yp 1) fun c => yp_ym 0 c
  | 1 => Function.LeftInverse.injective (g := yp 2) fun c => yp_ym 1 c
  | 2 => Function.LeftInverse.injective (g := yp 3) fun c => yp_ym 2 c
  | 3 => Function.LeftInverse.injective (g := zp) zp_zp
  | 4 => Function.LeftInverse.injective (g := xp) xp_xp
/-- No two devices make their `k`-th copy of the same kind to the same device. -/
theorem peer_injective (k : Fin 3) : ∀ s : Fin 5, Function.Injective (peer s k)
  | 0 => Function.LeftInverse.injective (g := ym (k.val + 1)) fun c => ym_yp k c
  | 1 => Function.LeftInverse.injective (g := zp) zp_zp
  | 2 => Function.LeftInverse.injective (g := xp) xp_xp
  | 3 => Function.LeftInverse.injective (g := zp) zp_zp
  | 4 => Function.LeftInverse.injective (g := xp) xp_xp

/-- Over all devices it does not matter whether one counts a thing at each device or at each one's peer. -/
theorem bigSep_peer {f : Dev nD → Dev nD} (hf : Function.Injective f) (Φ : Dev nD → sProp 𝕄) :
    bigSep Finset.univ Φ = bigSep Finset.univ fun c => Φ (f c) :=
  bigSep_univ_equiv (Equiv.ofBijective f (Finite.injective_iff_bijective.mp hf)) Φ

/-- The tokens of device `c`'s own cells. -/
def ownToks : sProp 𝕄 :=
  iprop((bigSep Finset.univ fun d : Fin 5 => dutyTok ER (barCell c) 0 d)
    ∗ bigSep Finset.univ fun p : Fin 10 × Fin 3 => dutyTok ER (cell c p.1 p.2) 0 0)
/-- The tokens of the duties that device `c` pays. -/
def payToks : sProp 𝕄 :=
  iprop((bigSep Finset.univ fun d : Fin 5 => dutyTok ER (barCell (bpeer d c)) 0 d)
    ∗ bigSep Finset.univ fun k : Fin 3 => bigSep Finset.univ fun s : Fin 5 => toks c s k)

/-- The tokens minted with all cells are the tokens that all devices pay with. -/
theorem toks_dealt : (bigSep Finset.univ fun c : Dev nD => ownToks (F := F) c) = bigSep Finset.univ fun c : Dev nD => payToks (F := F) c := by
  have hb : (bigSep Finset.univ fun c : Dev nD => bigSep Finset.univ fun d : Fin 5 => (dutyTok ER (barCell c) 0 d : sProp 𝕄))
      = bigSep Finset.univ fun c : Dev nD => bigSep Finset.univ fun d : Fin 5 => (dutyTok ER (barCell (bpeer d c)) 0 d : sProp 𝕄) := by
    rw [bigSep_univ_comm, bigSep_univ_comm fun (c : Dev nD) (d : Fin 5) => (dutyTok ER (barCell (bpeer d c)) 0 d : sProp 𝕄)]
    exact bigSep_congr fun d _ => bigSep_peer (bpeer_injective d) fun c => dutyTok ER (barCell c) 0 d
  have hr : (bigSep Finset.univ fun c : Dev nD => bigSep Finset.univ fun k : Fin 3 => bigSep Finset.univ fun s : Fin 5 => (dutyTok ER (cell c (rj s) k) 0 0 : sProp 𝕄))
      = bigSep Finset.univ fun c : Dev nD => bigSep Finset.univ fun k : Fin 3 => bigSep Finset.univ fun s : Fin 5 => (dutyTok ER (cell (peer s k c) (rj s) k) 0 0 : sProp 𝕄) := by
    rw [bigSep_univ_comm, bigSep_univ_comm fun (c : Dev nD) (k : Fin 3) => bigSep Finset.univ fun s : Fin 5 => (dutyTok ER (cell (peer s k c) (rj s) k) 0 0 : sProp 𝕄)]
    refine bigSep_congr fun k _ => ?_
    rw [bigSep_univ_comm, bigSep_univ_comm fun (c : Dev nD) (s : Fin 5) => (dutyTok ER (cell (peer s k c) (rj s) k) 0 0 : sProp 𝕄)]
    exact bigSep_congr fun s _ => bigSep_peer (peer_injective k s) fun c => dutyTok ER (cell c (rj s) k) 0 0
  unfold ownToks payToks toks
  simp only [bigSep_sides, bigSep_sep']
  rw [hb, hr]

/-! ## The credits -/

/-- Different semaphores, or different devices, have different cells. -/
theorem cell_inj {a b : Dev nD} {j j' : Fin 10} {k k' : Fin 3} (h : cell a j k = cell b j' k') : a = b ∧ j = j' ∧ k = k' := by
  have h1 : a = b := congrArg (fun g : GSem nD τ sig => g.1.1) h
  have h2 : (SemLoc.dma (semOf j k) : SemLoc sig) = .dma (semOf j' k') := congrArg Prod.snd h
  have h3 : semOf j k = semOf j' k' := by injection h2
  have h4 := congrArg slotOf h3
  rw [slotOf_semOf, slotOf_semOf] at h4
  injection h4 with h4
  exact ⟨h1, congrArg Prod.fst h4, congrArg Prod.snd h4⟩
/-- Different devices have different barrier cells. -/
theorem bar_inj {a b : Dev nD} (h : barCell a = barCell b) : a = b := congrArg (fun g : GSem nD τ sig => g.1.1) h
/-- A barrier cell is no copy's cell. -/
theorem bar_ne_cell {a b : Dev nD} {j : Fin 10} {k : Fin 3} (h : barCell a = cell b j k) : False := by
  have h2 := congrArg Prod.snd h; cases h2
/-- Different kinds of copies have different receiving arrays. -/
theorem rj_injective : Function.Injective rj := by decide

/-- What all devices owe a cell is what each item makes them owe it. -/
theorem sum_oblig (g : GSem nD τ sig) : ∀ l : List Item,
    (∑ d : Dev nD, oblig d l g ()) = (l.map fun i => ∑ d : Dev nD, if g = tgt d i then units i else 0).sum
  | [] => Finset.sum_const_zero
  | i :: l => by
    rw [List.map_cons, List.sum_cons, ← sum_oblig g l, ← Finset.sum_add_distrib]
    refine Finset.sum_congr rfl fun d _ => ?_
    show (oblig d l + tallyAt (tgt d i) () (units i)) g () = _
    rw [Pi.add_apply, Finsupp.add_apply, tallyAt_apply, Nat.add_comm]
    simp

/-- An item that raises the cell of exactly one device's peer. -/
theorem sum_one {f : Dev nD → Dev nD} (hf : Function.Injective f) (c : Dev nD) (n : ℕ) : (∑ d : Dev nD, if c = f d then n else 0) = n := by
  obtain ⟨d₀, rfl⟩ := (Finite.injective_iff_surjective.mp hf) c
  rw [Finset.sum_congr rfl fun d _ => if_congr (show f d₀ = f d ↔ d₀ = d from ⟨fun h => hf h, congrArg f⟩) rfl rfl,
    Finset.sum_ite_eq Finset.univ d₀ fun _ => n, if_pos (Finset.mem_univ _)]

/-- Over all devices, one item adds to a given barrier one unit if it is a barrier duty, and nothing if it is a copy. -/
theorem sum_item_bar (c : Dev nD) (i : Item) :
    (∑ d : Dev nD, if barCell c = tgt d i then units i else 0) = match i with | .bar _ => 1 | .send _ _ => 0 := by
  cases i with
  | bar e =>
    rw [Finset.sum_congr rfl fun d _ => if_congr (show barCell c = tgt d (.bar e) ↔ c = bpeer e d from ⟨fun h => bar_inj h, fun h => congrArg barCell h⟩) rfl rfl]
    exact sum_one (bpeer_injective e) c 1
  | send s k => exact Finset.sum_eq_zero fun d _ => if_neg fun h => bar_ne_cell h
/-- Over all devices, one item adds to a given receiving cell the copy's amount if it is that cell's copy, and nothing otherwise. -/
theorem sum_item_cell (c : Dev nD) (s : Fin 5) (k : Fin 3) (i : Item) :
    (∑ d : Dev nD, if cell c (rj s) k = tgt d i then units i else 0) = if i = .send s k then amt (rj s) else 0 := by
  cases i with
  | bar e => exact (Finset.sum_eq_zero fun d _ => if_neg fun h => bar_ne_cell h.symm).trans (if_neg (by simp)).symm
  | send s' k' =>
    by_cases hi : s' = s ∧ k' = k
    · obtain ⟨rfl, rfl⟩ := hi
      rw [if_pos rfl, Finset.sum_congr rfl fun d _ => if_congr (show cell c (rj s') k' = tgt d (.send s' k') ↔ c = peer s' k' d from
        ⟨fun h => (cell_inj h).1, fun h => congrArg (fun c => cell c (rj s') k') h⟩) rfl rfl]
      exact sum_one (peer_injective k' s') c _
    · refine (Finset.sum_eq_zero fun d _ => if_neg fun h => hi ?_).trans (if_neg fun h => hi ?_).symm
      · have := cell_inj h; exact ⟨(rj_injective this.2.1).symm, this.2.2.symm⟩
      · injection h with h1 h2; exact ⟨h1, h2⟩

/-- Adding `n` for every occurrence of `i` in a list gives the number of occurrences times `n`. -/
theorem sum_count (i : Item) (n : ℕ) : ∀ l : List Item, (l.map fun j => if j = i then n else 0).sum = l.count i * n
  | [] => (Nat.zero_mul n).symm
  | j :: l => by
    rw [List.map_cons, List.sum_cons, sum_count i n l, List.count_cons]
    by_cases hj : j = i
    · rw [if_pos hj, if_pos (beq_iff_eq.mpr hj), Nat.add_mul, Nat.one_mul, Nat.add_comm]
    · rw [if_neg hj, if_neg fun h => hj (beq_iff_eq.mp h), Nat.zero_add, Nat.add_zero]

/-- All devices together owe a barrier five units. -/
theorem owed_bar : (∑ d : Dev nD, oblig d allItems (barCell c) ()) = 5 := by
  rw [sum_oblig, List.map_congr_left fun i _ => sum_item_bar c i]; rfl
/-- All devices together owe a receiving cell the amount of one copy. -/
theorem owed_cell (s : Fin 5) (k : Fin 3) : (∑ d : Dev nD, oblig d allItems (cell c (rj s) k) ()) = amt (rj s) := by
  rw [sum_oblig, List.map_congr_left fun i _ => sum_item_cell c s k i]
  have h : allItems.count (Item.send s k) = 1 := by revert s k; decide
  exact (sum_count (.send s k) (amt (rj s)) allItems).trans (by rw [h, Nat.one_mul])

/-- So the launch has five units of credit for a barrier, -/
theorem launch_bar : tallyOn (barCell c) (launchCredit (Pipeline.owing fun d => oblig d allItems) 0 (barCell c)) = (tallyAt (barCell c) () 5 : CellTallies nD τ sig Unit) := by
  unfold tallyAt; refine congrArg _ (Finsupp.ext fun u => ?_); cases u
  rw [Pipeline.launchCredit_owing, owed_bar, Finsupp.single_eq_same]
/-- and a copy's amount of credit for a receiving cell. -/
theorem launch_cell (s : Fin 5) (k : Fin 3) : tallyOn (cell c (rj s) k) (launchCredit (Pipeline.owing fun d => oblig d allItems) 0 (cell c (rj s) k))
    = (tallyAt (cell c (rj s) k) () (amt (rj s)) : CellTallies nD τ sig Unit) := by
  unfold tallyAt; refine congrArg _ (Finsupp.ext fun u => ?_); cases u
  rw [Pipeline.launchCredit_owing, owed_cell, Finsupp.single_eq_same]

/-- The receiving semaphores, numbered by phase and kind. -/
def recvEmb : Fin 3 × Fin 5 ↪ SemLoc sig := ⟨fun q => .dma (semOf (rj q.2) q.1), by decide⟩

/-- A device's credits at the launch: five units for its barrier, and a copy's amount for each of its receiving cells. -/
theorem creds : (Pipeline.launchCred (fun d => oblig d allItems) c : sProp 𝕄)
    ⊢ iprop(cred (tallyAt (barCell c) () 5) ∗ bigSep Finset.univ fun k : Fin 3 => bigSep Finset.univ fun s : Fin 5 => crd c (rj s) k) := by
  unfold Pipeline.launchCred
  rw [bigSep_univ_at _ (SemLoc.reg barS), launch_bar]
  refine sep_mono_right ?_
  have h : (bigSep (Finset.univ.map recvEmb) fun sm : SemLoc sig =>
        (cred (tallyOn ((c : Thread nD τ), sm) (launchCredit (Pipeline.owing fun d => oblig d allItems) 0 ((c : Thread nD τ), sm))) : sProp 𝕄))
      = bigSep Finset.univ fun k : Fin 3 => bigSep Finset.univ fun s : Fin 5 => crd c (rj s) k := by
    rw [bigSep_map, bigSep_univ_prod]
    exact bigSep_congr fun k _ => bigSep_congr fun s _ => by unfold crd; rw [← launch_cell]; rfl
  rw [← h]
  refine bigSep_subset fun sm hm => ?_
  obtain ⟨q, -, rfl⟩ := Finset.mem_map.mp hm
  exact Finset.mem_erase.mpr ⟨fun h => by injection h, Finset.mem_univ _⟩

end Cert.Reshard

end
-- ==== Proof.Run.lean ====
/-
# The run of the kernel

The proof data of the one pallas_call, its body's obligation, the launch, and the run from any memory with all semaphores at
zero: it ends, with every device's result array at the result, `x` unchanged and every semaphore at zero.
-/
module

public import proofs.«01_k».proof.Proof.Deal
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import proofs.«01_k».proof.Proof.Gen.KernelIdeal.Points

@[expose] public section

noncomputable section

namespace Cert.Reshard

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## Whole buffers -/

section Buffers
variable (c : Dev nD)

omit [FloatOps F] in
/-- A buffer that may be written: so may each of its slots, -/
theorem free_slots (M : Memref sig .tc .vmem S3x256x512 .f32) : free (F := F) c M ⊢ bigSep Finset.univ fun k : Fin 3 => free (F := F) c (slot M k) := by
  unfold free
  iintro ⟨%f, H⟩
  ihave H := (Entails.of_eq (slots_split (F := F) c M fullShare f)) $$ H
  have h : (bigSep Finset.univ fun k : Fin 3 => held (F := F) c (slot M k) fullShare f)
      ⊢ bigSep Finset.univ fun k : Fin 3 => iprop(∃ f, held (F := F) c (slot M k) fullShare f) := bigSep_mono fun k _ => by
    show (_ : sProp 𝕄) ⊢ _
    iintro H; iexists f; iexact H
  iapply h; iexact H
omit [FloatOps F] in
/-- and so may both halves of a slot. -/
theorem free_halves (M : Memref sig .tc .vmem S3x256x512 .f32) (k : Fin 3) :
    free (F := F) c (slot M k) ⊢ iprop(free (F := F) c (half M k 0) ∗ free (F := F) c (half M k 1)) := by
  unfold free
  iintro ⟨%f, H⟩
  ihave ⟨H0, H1⟩ := (halves_split (F := F) c M k fullShare f).1 $$ H
  isplitl [H0]
  · iexists f; iexact H0
  · iexists f; iexact H1

/-- The four scratch buffers, as the launch hands them over: -/
def scratch : sProp 𝕄 := iprop(free (F := F) c cM ∗ free (F := F) c zM ∗ free (F := F) c wM ∗ free (F := F) c dM)

omit [FloatOps F] in
/-- The pipeline's scratch buffers are these four; -/
theorem scratch_eq : (Pipeline.scopedRest spec0 c : sProp 𝕄) = scratch (F := F) c := by
  rw [scopedRest0_eq]
  unfold scratch free held
  simp only [Memref.view_whole, View.set_whole]

omit [FloatOps F] in
/-- and as the handshake gives them away. -/
theorem scratch_split : scratch (F := F) c ⊢ iprop(ownY (F := F) c ∗ ownZ (F := F) c ∗ ownX (F := F) c) := by
  unfold scratch ownY ownZ ownX
  rw [bigSep_sep', bigSep_sep']
  iintro ⟨Hc, Hz, Hw, Hd⟩
  ihave Hc := (free_slots (F := F) c cM) $$ Hc
  ihave Hz := (free_slots (F := F) c zM) $$ Hz
  ihave Hw := (free_slots (F := F) c wM) $$ Hw
  ihave Hd := (free_slots (F := F) c dM) $$ Hd
  ihave Hd := (show (bigSep Finset.univ fun k : Fin 3 => free (F := F) c (slot dM k))
      ⊢ bigSep Finset.univ fun k : Fin 3 => iprop(free (F := F) c (half dM k 0) ∗ free (F := F) c (half dM k 1)) from
    bigSep_mono fun k _ => free_halves (F := F) c dM k) $$ Hd
  ihave ⟨Hd0, Hd1⟩ := (Entails.of_eq (bigSep_sep' Finset.univ (fun k : Fin 3 => free (F := F) c (half dM k 0)) fun k => free (F := F) c (half dM k 1))) $$ Hd
  isplitl [Hc]; · iexact Hc
  isplitl [Hz Hd0]
  · isplitl [Hz] <;> iassumption
  · isplitl [Hw] <;> iassumption

end Buffers

/-! ## Closing the cells -/

section Close
variable (X : Dev nD → S1024x2048.Idx → Elt F .f32) (K : Dev nD × CI → ℕ) (c : Dev nD)

/-- Device `c`'s semaphores, all at zero. -/
def zeros : sProp 𝕄 := iprop((bigSep Finset.univ fun p : Fin 10 × Fin 3 => semVal (cell c p.1 p.2) 0) ∗ semVal (barCell c) 0)

omit [FloatOps F] in
/-- A cell whose one round is over gives its semaphore back, at zero. -/
theorem close_at (p : Dev nD × CI) : recs X K ⊢ iprop(atPos ER (kcell p) 1 ∅ 0 -∗ |={Set.univ}=> semVal (kcell p) 0) := by
  iintro #HR Hat
  ihave ⟨HI, -⟩ := (recs_at X K p) $$ HR
  iapply (Rounds.cell_close ER (sched X) (Set.mem_univ (K p)) (fun h => h) (R := 0 + 1) (duties_later X (kcell p)))
  isplitl [HI]; · iexact HI
  iexact Hat

omit [FloatOps F] in
/-- When all rounds are over, all semaphores of the device are back at zero. -/
theorem close_all : iprop(recs X K ∗ atPos ER (barCell c) 1 ∅ 0 ∗ bigSep Finset.univ fun k : Fin 3 => done (F := F) c k) ⊢ |={Set.univ}=> zeros (F := F) c := by
  have hd : (bigSep Finset.univ fun k : Fin 3 => done (F := F) c k) = bigSep Finset.univ fun p : Fin 10 × Fin 3 => (atPos ER (kcell (c, some p)) 1 ∅ 0 : sProp 𝕄) := by
    rw [bigSep_sides, ← bigSep_sep']; rfl
  rw [hd]
  unfold zeros
  iintro ⟨#HR, Hb, Hd⟩
  imod (show recs X K ⊢ iprop(atPos ER (barCell c) 1 ∅ 0 -∗ |={Set.univ}=> semVal (barCell c) 0) from close_at X K (c, none)) $$ HR Hb with Hb
  imod ((bigSep_with_persistent (S := Finset.univ) (R := recs X K) (Φ := fun p : Fin 10 × Fin 3 => (atPos ER (kcell (c, some p)) 1 ∅ 0 : sProp 𝕄))
      (Ψ := fun p => iprop(|={Set.univ}=> semVal (kcell (c, some p)) 0)) fun p _ => (by
        show (_ : sProp 𝕄) ⊢ _
        iintro ⟨HR, H⟩
        iapply (close_at X K (c, some p)) $$ HR H)).trans (bigSep_fupd _ _)) $$ [Hd] with Hd
  · isplitr; · iexact HR
    iexact Hd
  imodintro
  isplitl [Hd]; · iexact Hd
  iexact Hb

end Close

/-! ## The proof data -/

section Run

variable (m : (l : Loc nD τ sig) → Buf (Elt F) l) (ρ : Dev nD → PrngReg)

/-- The memory at the start, with every semaphore at zero. -/
def s₀ : MemSt nD τ sig (Elt F) := ⟨m, fun _ => 0, ρ⟩

/-- Device `c`'s shard of `x`, as staged, -/
def xstg (c : Dev nD) : S1024x2048.Idx → Elt F .f32 := (win0_0.blk (0 : Fin 1)).view.read (Elt F) ((s₀ m ρ).mem ((c : Thread nD τ).loc main_arg0))
/-- and its result. -/
def outAt (c : Dev nD) : S4096x512.Idx → Elt F .f32 := full (xstg m ρ) c

/-- What a device has of the protocol at the start, beside the records. -/
def linear (c : Dev nD) : sProp 𝕄 :=
  iprop(payToks (F := F) c ∗ atPos ER (barCell c) 0 ∅ 0
    ∗ (bigSep Finset.univ fun k : Fin 3 => bigSep Finset.univ fun s : Fin 5 => at0 (F := F) c (sj s) k)
    ∗ bigSep Finset.univ fun k : Fin 3 => bigSep Finset.univ fun s : Fin 5 => at0 (F := F) c (rj s) k)
/-- Its credits. -/
def credits (c : Dev nD) : sProp 𝕄 :=
  iprop(cred (tallyAt (barCell c) () 5) ∗ bigSep Finset.univ fun k : Fin 3 => bigSep Finset.univ fun s : Fin 5 => crd (F := F) c (rj s) k)
/-- All that a device has of the protocol at the start. -/
def start (c : Dev nD) : sProp 𝕄 := iprop((∃ K, recs (xstg m ρ) K) ∗ linear (F := F) c ∗ credits (F := F) c)

/-- What the body starts with, beside the staged arrays, -/
def Φ₀ (c : Dev nD) : sProp 𝕄 := iprop(start m ρ c ∗ scratch (F := F) c)
/-- and what it ends with. -/
def Φ₁ (c : Dev nD) : sProp 𝕄 := iprop(zeros (F := F) c ∗ scratch (F := F) c)

/-- The call's proof data: one step, which leaves the staged `x` as it was and the staged result full. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => oblig c allItems
    | ⟨_ + 1, _⟩ => 0

/-- The shard of `x` is fetched. -/
theorem fetch_x (t : Fin cfg0.N) : (cfg0.win (0 : Fin 2)).fetch t = true := by rw [fin_N0 t]; rfl

omit [FloatOps F] in
/-- To own a whole buffer is to hold all its elements. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer of the device, held in full with the contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the body is given, -/
def bodyPre (c : Dev nD) : sProp 𝕄 :=
  iprop(Φ₀ m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

/-- and what it leaves. -/
def bodyPost (c : Dev nD) : sProp 𝕄 :=
  iprop(Φ₁ (F := F) c ∗ (dats m ρ 0 c).owesAt () t0_0.succ ∗ staged c cc0_stg0_0 (xstg m ρ c) ∗ staged c cc0_stg1_0 (outAt m ρ c))

omit [FloatOps F] in
/-- The staged `x`, as the pipeline and as the protocol hold it; -/
theorem held_x (c : Dev nD) (f : S1024x2048.Idx → Elt F .f32) : (((c : Thread nD τ).loc cc0_stg0_0) ↦{fullShare} f : sProp 𝕄) = held (F := F) c xM fullShare f := by
  unfold held; simp only [Memref.view_whole, View.set_whole]
omit [FloatOps F] in
/-- likewise the staged result. -/
theorem held_o (c : Dev nD) (f : S4096x512.Idx → Elt F .f32) : (((c : Thread nD τ).loc cc0_stg1_0) ↦{fullShare} f : sProp 𝕄) = held (F := F) c oM fullShare f := by
  unfold held; simp only [Memref.view_whole, View.set_whole]

omit [FloatOps F] in
/-- The tokens, positions and credits that a device has, sorted as the body uses them. -/
theorem deal_intro (c : Dev nD) :
    iprop((bigSep Finset.univ fun k : Fin 3 => bigSep Finset.univ fun s : Fin 5 => toks (F := F) c s k)
      ∗ (bigSep Finset.univ fun k : Fin 3 => bigSep Finset.univ fun s : Fin 5 => at0 (F := F) c (sj s) k)
      ∗ (bigSep Finset.univ fun k : Fin 3 => bigSep Finset.univ fun s : Fin 5 => at0 (F := F) c (rj s) k)
      ∗ bigSep Finset.univ fun k : Fin 3 => bigSep Finset.univ fun s : Fin 5 => crd (F := F) c (rj s) k)
    ⊢ bigSep Finset.univ fun k : Fin 3 => deal (F := F) c k := by
  unfold deal recvTok
  simp only [bigSep_sep']
  iintro ⟨Ht, Hs, Hr, Hc⟩
  isplitl [Ht]; · iexact Ht
  isplitl [Hr Hc]
  · isplitl [Hc] <;> iassumption
  iexact Hs

set_option maxRecDepth 4000 in
/-- The body takes what it is given to what it must leave. -/
theorem body_sound (c : Dev nD) : bodyPre m ρ c ⊢ runs c whole fun _ => bodyPost m ρ c := by
  unfold bodyPre Φ₀ start
  iintro ⟨⟨⟨⟨%K, #HR⟩, Hlin, Hcred⟩, Hscr⟩, Ho, ⟨%d0, %g0, %hg0, Hx⟩, ⟨%d1, %g1, %hg1, Hout⟩⟩
  have hx : g0 = xstg m ρ c := by rw [hg0]; unfold Dat.before; rw [if_pos (fetch_x t0_0)]; rfl
  subst hx
  unfold linear payToks credits
  icases Hlin with ⟨⟨Htb, Htk⟩, Hab, Has, Har⟩
  icases Hcred with ⟨Hcb, Hcr⟩
  iapply (runs_whole (xstg m ρ) K c g1) $$ [Hscr Htb Htk Hab Has Har Hcb Hcr Hx Hout Ho]
  · isplitr; · iexact HR
    unfold atStart
    isplitl [Hscr]; · iapply (scratch_split (F := F) c); iexact Hscr
    isplitl [Htb]; · iexact Htb
    isplitl [Hcb Hab]
    · isplitl [Hcb] <;> iassumption
    isplitl [Htk Has Har Hcr]
    · iapply (deal_intro (F := F) c)
      isplitl [Htk]; · iexact Htk
      isplitl [Has]; · iexact Has
      isplitl [Har] <;> iassumption
    isplitl [Hx]
    · ihave Hx := (Entails.of_eq (held_x (F := F) c _)) $$ Hx
      iexact Hx
    isplitl [Hout]
    · ihave Hout := (Entails.of_eq (held_o (F := F) c _)) $$ Hout
      iexact Hout
    unfold Dat.owesAt Pipeline.owesWithin owesE
    icases Ho with ⟨%W, -, Ho⟩
    iexists W; iexact Ho
  unfold atEnd
  iintro ⟨Hab, Hdone, ⟨Hc, Hz, Hw, Hd⟩, Hx, Hout, HO⟩
  imod (close_all (xstg m ρ) K c) $$ [Hab Hdone] with Hzero
  · isplitr; · iexact HR
    isplitl [Hab] <;> iassumption
  imodintro
  unfold bodyPost Φ₁
  isplitl [Hzero Hc Hz Hw Hd]
  · isplitl [Hzero]; · iexact Hzero
    unfold scratch free
    isplitl [Hc]; · iexists _; iexact Hc
    isplitl [Hz]; · iexists _; iexact Hz
    isplitl [Hw]; · iexists _; iexact Hw
    iexists _; iexact Hd
  isplitl [HO]
  · unfold Dat.owesAt Pipeline.owesWithin owesE
    icases HO with ⟨%W, HO⟩
    iexists W
    isplitr; · ipureintro; exact fun _ _ => Or.inl trivial
    iexact HO
  isplitl [Hx]
  · iexists _; isplitr; · (ipureintro; rfl)
    ihave Hx := (Entails.of_eq (held_x (F := F) c _).symm) $$ Hx
    iexact Hx
  iexists _; isplitr; · (ipureintro; rfl)
  ihave Hout := (Entails.of_eq (held_o (F := F) c _).symm) $$ Hout
  iexact Hout

set_option maxRecDepth 65536 in
/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 cc0_scratch12 cc0_scratch13) (fun _ => bodyPost m ρ c)
  rw [body_eq]
  exact body_sound m ρ c

/-! ## The launch -/

/-- The kernel's own semaphores. -/
abbrev osem : Fin 10 × Fin 3 → SemLoc sig := fun p => .dma (semOf p.1 p.2)
/-- The kernel's own semaphores are scoped to the call and are not the pipeline's. -/
theorem ownSemFacts : Pipeline.OwnSemFacts cfg0.spec osem := by decide

/-- The arrays are held in full. -/
theorem share_eq (c : Dev nD) (w : Fin cfg0.W) : (dats m ρ 0 c).share w = fullShare := by unfold Dat.share; split <;> rfl

/-- Different cell indices name different cells. -/
theorem kcell_injective : Function.Injective (kcell : Dev nD × CI → GSem nD τ sig) := by
  rintro ⟨c, _ | ⟨j, k⟩⟩ ⟨c', _ | ⟨j', k'⟩⟩ h
  · exact congrArg (fun c => (c, none)) (bar_inj h)
  · exact (bar_ne_cell h).elim
  · exact (bar_ne_cell h.symm).elim
  · obtain ⟨rfl, rfl, rfl⟩ := cell_inj h; rfl
/-- The cells of all devices. -/
def allCells : Finset (GSem nD τ sig) := Finset.univ.map ⟨kcell, kcell_injective⟩

/-- The duties of a device's own cells: its barrier's five, and one of each of its semaphores. -/
def tokOf (p : Dev nD × (Fin 5 ⊕ Fin 10 × Fin 3)) : GSem nD τ sig × ℕ × Fin 5 := match p.2 with
  | .inl d => (barCell p.1, 0, d)
  | .inr q => (cell p.1 q.1 q.2, 0, 0)
/-- Different duties have different tokens. -/
theorem tokOf_injective : Function.Injective tokOf := by
  rintro ⟨c, d | ⟨j, k⟩⟩ ⟨c', d' | ⟨j', k'⟩⟩ h
  · have h1 : c = c' := bar_inj (congrArg Prod.fst h)
    have h2 : d = d' := congrArg (fun x : GSem nD τ sig × ℕ × Fin 5 => x.2.2) h
    rw [h1, h2]
  · exact (bar_ne_cell (congrArg Prod.fst h)).elim
  · exact (bar_ne_cell (congrArg Prod.fst h).symm).elim
  · obtain ⟨rfl, rfl, rfl⟩ := cell_inj (congrArg Prod.fst h); rfl
/-- The tokens of all devices. -/
def allToks : Finset (GSem nD τ sig × ℕ × Fin 5) := Finset.univ.map ⟨tokOf, tokOf_injective⟩

/-- The ghost state at the start. -/
def u₀ : UU := (initOf (Pipeline.cells cfgs cellOf_inj) (Pipeline.launchToks cfgs cellOf_inj), initOf allCells allToks)

/-- What it deals device `c`, -/
def G (c : Dev nD) : sProp 𝕄 :=
  iprop((bigSep Finset.univ fun i : CI => roundState ER (sched (xstg m ρ)) (kcell (c, i)) 0)
    ∗ (bigSep Finset.univ fun i : CI => atPos ER (kcell (c, i)) 0 ∅ 0) ∗ (bigSep Finset.univ fun i : CI => reached ER (kcell (c, i)) 0) ∗ ownToks (F := F) c)
/-- and what comes of it once all cells have their invariants. -/
def G' (c : Dev nD) : sProp 𝕄 :=
  iprop((∃ K : Dev nD × CI → ℕ, bigSep Finset.univ fun p : Dev nD × CI => iprop(cellInv ER (sched (xstg m ρ)) (K p) (kcell p) ∗ reached ER (kcell p) 0)) ∗ linear (F := F) c)

omit [FloatOps F] in
/-- The rounds' initial resources, dealt to the devices. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => ownToks (F := F) c := by
    unfold allToks; rw [bigSep_map, bigSep_univ_prod]
    exact bigSep_congr fun c _ => by unfold ownToks; rw [bigSep_univ_sum]; rfl
  iintro HX
  imod (Rounds.fund ER (sched (xstg m ρ)) allCells allToks) $$ HX with ⟨Hst, Hr, Hat, Htok⟩
  imodintro
  ihave Hst' := (Entails.of_eq (hX fun g => roundState ER (sched (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
/-- The kernel's own semaphores are the thirty of the plan, -/
theorem ownSems0_eq (c : Dev nD) : (Pipeline.ownSems0 (Ix := Unit) (Name := ℕ) (U := UU) (Lvl := ℕ) (Val := Elt F) (τ := τ) osem c : sProp 𝕄)
    = bigSep Finset.univ fun p : Fin 10 × Fin 3 => semVal (cell c p.1 p.2) 0 := rfl
omit [FloatOps F] in
/-- The barrier is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- and with the barrier they are all that the cells are made of. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun i : CI => semVal (kcell (c, i)) 0 : sProp 𝕄) := by
  rw [ownSems0_eq, unscopedSems0_eq, bigSep_cells]; rfl

omit [FloatOps F] in
/-- A device's semaphores at zero become its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (sched (xstg m ρ)) κ (kcell (c, i))))
          ∗ (bigSep Finset.univ fun i : CI => reached ER (kcell (c, i)) 0)
          ∗ (bigSep Finset.univ fun i : CI => atPos ER (kcell (c, i)) 0 ∅ 0) ∗ ownToks (F := F) c) := by
  unfold G
  iintro ⟨Hos, Hus, Hst, Hat, Hr, Htok⟩
  ihave Hv := (Entails.of_eq (sems0_eq (F := F) c)) $$ [Hos Hus]
  · isplitl [Hos] <;> iassumption
  imod (show iprop((bigSep Finset.univ fun i : CI => semVal (kcell (c, i)) 0) ∗ bigSep Finset.univ fun i : CI => roundState ER (sched (xstg m ρ)) (kcell (c, i)) 0)
      ⊢ (|={Set.univ}=> bigSep Finset.univ fun i : CI => iprop(∃ κ : ℕ, cellInv ER (sched (xstg m ρ)) κ (kcell (c, i))) : sProp 𝕄) from by
        rw [← bigSep_sep']
        exact (bigSep_mono fun i _ => (Rounds.body_intro ER (sched (xstg m ρ)) (kcell (c, i))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

omit [FloatOps F] in
/-- A device's positions, sorted. -/
theorem pos_eq (c : Dev nD) : (bigSep Finset.univ fun i : CI => atPos ER (kcell (c, i)) 0 ∅ 0 : sProp 𝕄)
    = iprop(((bigSep Finset.univ fun k : Fin 3 => bigSep Finset.univ fun s : Fin 5 => at0 (F := F) c (sj s) k)
      ∗ bigSep Finset.univ fun k : Fin 3 => bigSep Finset.univ fun s : Fin 5 => at0 (F := F) c (rj s) k) ∗ atPos ER (barCell c) 0 ∅ 0) := by
  rw [bigSep_cells, bigSep_sides]; rfl

omit [FloatOps F] in
/-- What all devices have after that, dealt again: the records to everyone, the tokens to those who pay with them. -/
theorem regroup :
    (bigSep Finset.univ fun c : Dev nD => iprop((bigSep Finset.univ fun i : CI => iprop(∃ κ : ℕ, cellInv ER (sched (xstg m ρ)) κ (kcell (c, i))))
          ∗ (bigSep Finset.univ fun i : CI => reached ER (kcell (c, i)) 0)
          ∗ (bigSep Finset.univ fun i : CI => atPos ER (kcell (c, i)) 0 ∅ 0) ∗ ownToks (F := F) c) : sProp 𝕄)
      ⊢ bigSep Finset.univ (G' m ρ) := by
  rw [bigSep_sep', bigSep_sep', bigSep_sep', toks_dealt, ← bigSep_univ_prod (fun p : Dev nD × CI => iprop(∃ κ : ℕ, cellInv ER (sched (xstg m ρ)) κ (kcell p))),
    ← bigSep_univ_prod (fun p : Dev nD × CI => (reached ER (kcell p) 0 : sProp 𝕄)), bigSep_congr (s := Finset.univ) fun (c : Dev nD) _ => pos_eq (F := F) c]
  iintro ⟨HI, #HR, Hat, Htok⟩
  ihave HK := (BI.bigSep_exists_pi Finset.univ (fun (p : Dev nD × CI) (κ : ℕ) => (cellInv ER (sched (xstg m ρ)) κ (kcell p) : sProp 𝕄))) $$ HI
  icases HK with ⟨%K, #HI⟩
  iapply (show iprop((bigSep Finset.univ fun p : Dev nD × CI => iprop(cellInv ER (sched (xstg m ρ)) (K p) (kcell p) ∗ reached ER (kcell p) 0))
      ∗ bigSep Finset.univ fun c : Dev nD => linear (F := F) c) ⊢ bigSep Finset.univ (G' m ρ) from
    bigSep_with_persistent fun c _ => by
      show (_ : sProp 𝕄) ⊢ _
      unfold G'
      iintro ⟨HR, HL⟩
      isplitl [HR]
      · iexists K; iexact HR
      iexact HL)
  isplitr
  · rw [bigSep_sep']
    isplitl; · iexact HI
    iexact HR
  unfold linear
  simp only [bigSep_sep']
  icases Hat with ⟨⟨Hs, Hr⟩, Hb⟩
  isplitl [Htok]; · iexact Htok
  isplitl [Hb]; · iexact Hb
  isplitl [Hs]; · iexact Hs
  iexact Hr

omit [FloatOps F] in
/-- All cells get their invariants at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

omit [FloatOps F] in
/-- After the launch a device has all that it starts with. -/
theorem start_intro (c : Dev nD) :
    iprop(Pipeline.unscopedRestP Pipeline.Prefetch.none cfg0.spec c (fun b => m ((c : Thread nD τ).loc b)) ∗ levAts L lv
        ∗ Pipeline.launchCred (fun d => oblig d allItems) c ∗ prngReg c (ρ c) ∗ G' m ρ c)
      ⊢ |={Set.univ}=> iprop(start m ρ c ∗ emp) := by
  unfold start G' credits recs
  iintro ⟨-, Hlev, Hcr, -, ⟨%K, HG⟩, Hlin⟩
  ihave Hc := (creds (F := F) c) $$ Hcr
  imodintro
  isplitl
  · isplitl [HG Hlev]
    · iexists K; isplitl [HG] <;> iassumption
    isplitl [Hlin]; · iexact Hlin
    iexact Hc
  · iempintro

/-- With the scratch buffers that is what the body starts with. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = scratch (F := F) c from scratch_eq c]
  unfold Φ₀
  iintro ⟨Hs, -, Hr⟩
  isplitl [Hs] <;> iassumption

/-- What the body ends with is what the pipeline wants back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, show (Pipeline.scopedRest cfg0.spec c : sProp 𝕄) = scratch (F := F) c from scratch_eq c,
    ownSems0_eq, unscopedSems0_eq]
  unfold Φ₁ zeros
  iintro ⟨⟨Hz, Hb⟩, Hr⟩
  isplitl [Hb]; · iexact Hb
  isplitl [Hz] <;> iassumption

/-- Every item lies above level zero, -/
theorem lev_pos : ∀ i ∈ allItems, 0 < lev i := by decide

/-- so the pipeline's own waits are allowed. -/
theorem waits_ok (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ allItems ?_
      fin_cases w <;> fin_cases s <;> exact lev_pos
    · refine mayWait c _ [] fun i hi => absurd hi (List.not_mem_nil)

/-! ## The run -/

/-- What the arrays of the call hold at the end. -/
def finalA (c : Dev nD) (w : Fin cfg0.W) : Buf (Elt F) ((cfg0.win w).arr.view.loc (c : Thread nD τ)) := (dats m ρ 0 c).arrAt w cfg0.N

/-- The end of a run: every array of every device holds what the call computes for it. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all semaphores at zero, every fair run of the kernel on all devices ends, with every array as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => oblig d allItems) (howed₀ := fun _ => rfl) (howedN := fun _ => rfl)
    (L := L) (lv := lv) (hL := L_of_ne) (hwaits := waits_ok m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` is as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Run

end Cert.Reshard

end
-- ==== Proof.Result.lean ====
/-
# The kernel's result

The run in terms of @main's arrays, and the result as a block of the whole array of which every device holds its rows.
-/
module

public import proofs.«01_k».proof.Proof.Run
public import Idealize.ShloMosaic.Lib.Layout

@[expose] public section

noncomputable section

namespace Cert.Reshard

open Cert.KernelIdeal Cert.KernelIdeal.Gen
open Idealize.ShloMosaic
open Idealize.ShloMosaic.TcCoe Idealize.ShloMosaic.ValueIdx
open Idealize.SL.Sem

variable {F : FTy → Type} [FloatOps F]

section Arrays
variable (m : (l : Loc nD τ sig) → Buf (Elt F) l) (ρ : Dev nD → PrngReg) (c : Dev nD)

omit [FloatOps F] in
/-- The staged shard is the shard. -/
theorem xstg_eq : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- What the pipeline writes back is the kernel's result. -/
theorem flushed_out : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The result array ends as the body's result. -/
theorem finalA_out : finalA m ρ c (1 : Fin 2) = outAt m ρ c := by
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans (flushed_out m ρ c)

/-- From any memory with all semaphores at zero the kernel runs; every device's result is all rows of its columns, its `x` is as
    it was, and every semaphore is at zero again. -/
theorem run_result : θ_run defs (onTc (τ := τ) (main (F := F))) ⟨m, fun _ => 0, ρ⟩ fun r =>
    (∀ c : Dev nD, r.2.mem ((c.tc : Thread nD τ).loc main_v1) = full (fun d : Dev nD => m ((d.tc : Thread nD τ).loc main_arg0)) c
      ∧ r.2.mem ((c.tc : Thread nD τ).loc main_arg0) = m ((c.tc : Thread nD τ).loc main_arg0))
    ∧ r.2.sem = fun _ => 0 := by
  refine (θ_run _ _ _).mono ?_ (run_main (F := F) m ρ)
  rintro r ⟨hr, hs⟩
  refine ⟨fun c => ⟨(hr c (1 : Fin 2)).trans ((finalA_out m ρ c).trans ?_), (hr c (0 : Fin 2)).trans (finalA_x m ρ c)⟩, hs⟩
  unfold outAt
  exact congrArg (fun X => full X c) (funext fun d => xstg_eq m ρ d)

end Arrays

/-! ## The result as a block of the whole array -/

/-- The part of row `r` that the device it is taken from has, has that row's `y`. -/
theorem srcDev_y : ∀ (c : Dev nD) (b : Fin 16), (srcDev c b.val).val / 4 % 4 = b.val / 4 := by decide +kernel

/-- If every device holds its rows of `v`, the result is its columns of `v`. -/
theorem full_block (X : Dev nD → S1024x2048.Idx → Elt F .f32) (v : (⟨2, ![4096, 2048]⟩ : Shape).Idx → Elt F .f32)
    (hX : ∀ c : Dev nD, X c = Layout.blockN ⟨2, ![1024, 2048]⟩ ⟨2, ![4096, 2048]⟩ (Layout.meshBlock [2, 4, 4] ![[1], []] c) v) (c : Dev nD) :
    full X c = Layout.blockN ⟨2, ![4096, 512]⟩ ⟨2, ![4096, 2048]⟩ (Layout.meshBlock [2, 4, 4] ![[], [1]] c) v := by
  funext i
  have h0 : (i 0).val < 4096 := (i 0).isLt
  have h1 : (i 1).val < 512 := (i 1).isLt
  have hc : c.val < 32 := c.isLt
  have hy : (srcDev c ((i 0).val / 256)).val / 4 % 4 = (i 0).val / 256 / 4 := srcDev_y c ⟨(i 0).val / 256, by omega⟩
  unfold full
  rw [hX, Layout.blockN_apply, Layout.blockN_apply]
  refine congrArg v (funext fun a => Fin.ext ?_)
  rw [Layout.TilesN.idx_val, Layout.TilesN.idx_val]
  fin_cases a
  · show Layout.meshLin [2, 4, 4] (srcDev c ((i 0).val / 256)).val [1] * 1024 + (i 0).val % 1024 % 1024 = 0 * 4096 + (i 0).val
    have : Layout.meshLin [2, 4, 4] (srcDev c ((i 0).val / 256)).val [1] = (i 0).val / 256 / 4 := by
      rw [← hy]; show ((srcDev c ((i 0).val / 256)).val / 4 % 4) * 1 + 0 = _; rw [Nat.mul_one, Nat.add_zero]
    rw [this]; omega
  · show 0 * 2048 + (512 * (c.val / 4 % 4) + (i 1).val) % 2048 = (c.val / 4 % 4 * 1 + 0) * 512 + (i 1).val
    omega

end Cert.Reshard

end
-- ==== Proof.Same.lean ====
/- The two printings of the kernel are one program.

   The kernel is printed twice: as `Cert.Kernel`, to be read at bit patterns, and as
   `Cert.KernelIdeal`, to be read at extended reals. No operation was rewritten between the two, so
   they are the same program over the same signature. This module says so, and carries the theorem
   of `Result.lean`, which is stated of the second printing at any reading of floats, to the
   first. -/
module

public import proofs.«01_k».proof.Proof.Result
public import proofs.«01_k».proof.Proof.Gen.Kernel

@[expose] public section

noncomputable section

namespace Cert.Reshard

open Idealize.ShloMosaic Idealize.SL.Sem

variable {F : FTy → Type} [FloatOps F]

set_option maxRecDepth 65536 in
/-- The kernel functions of the two printings are equal. -/
theorem body_same : @Cert.Kernel.cc0_body F _ = @Cert.KernelIdeal.cc0_body F _ := rfl

set_option maxRecDepth 65536 in
/-- The tables of kernel bodies are equal: their one label runs the one kernel function on the same
    operands. -/
theorem bodies_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ)
    (sig := Cert.KernelIdeal.sig) (Λ := Cert.KernelIdeal.Λ₀) (Val := Elt F)) ?_
  funext l a
  match l, a with
  | 0, (t, s) => rfl

set_option maxRecDepth 65536 in
/-- The full tables, with the pipeline around the kernel, are equal. -/
theorem defs_same : Cert.Kernel.defs (F := F) = Cert.KernelIdeal.defs (F := F) :=
  congrArg (Pipeline.defs (Cert.KernelIdeal.pcfgs (F := F))) bodies_same

set_option maxRecDepth 65536 in
/-- The two `main`s are equal. -/
theorem main_same : Cert.Kernel.main (F := F) = Cert.KernelIdeal.main (F := F) := rfl

set_option maxRecDepth 65536 in
/-- The result of a run, of the first printing: every device's output is the whole array restricted
    to its columns, its input is unchanged, and every semaphore is at zero. -/
theorem run_result_first
    (m : (ℓ : Loc Cert.Kernel.nD Cert.Kernel.τ Cert.Kernel.sig) → Buf (Elt F) ℓ)
    (ρ : Dev Cert.Kernel.nD → PrngReg) :
    θ_run (Cert.Kernel.defs (F := F))
      (onTc (τ := Cert.Kernel.τ) (Cert.Kernel.main (F := F))) ⟨m, fun _ => 0, ρ⟩ fun r =>
        (∀ c : Dev Cert.Kernel.nD,
          r.2.mem ((c.tc : Thread Cert.Kernel.nD Cert.Kernel.τ).loc Cert.Kernel.main_v1)
            = full (F := F) (fun d : Dev Cert.Kernel.nD =>
                m ((d.tc : Thread Cert.Kernel.nD Cert.Kernel.τ).loc Cert.Kernel.main_arg0)) c
          ∧ r.2.mem ((c.tc : Thread Cert.Kernel.nD Cert.Kernel.τ).loc Cert.Kernel.main_arg0)
            = m ((c.tc : Thread Cert.Kernel.nD Cert.Kernel.τ).loc Cert.Kernel.main_arg0))
        ∧ r.2.sem = fun _ => 0 := by
  rw [defs_same, main_same]
  exact run_result m ρ

end Cert.Reshard

end
-- ==== Proof.Ref.lean ====
/-
# The run of the reference

Both readings of the reference return their argument.
-/
module

public import proofs.«01_k».proof.Proof.Gen.Reference
public import proofs.«01_k».proof.Proof.Gen.ReferenceIdeal
public import Idealize.ShloMosaic.Lib.StableHlo.Run
public import Idealize.ShloMosaic.Lib.Quiescent

@[expose] public section

noncomputable section

open Idealize.ShloMosaic Idealize.ShloMosaic.TcCoe Idealize.SL.Sem Idealize.ShloMosaic.StableHlo

namespace Cert.Reshard.Reference

open Cert.Reference Cert.Reference.Gen

variable {F : FTy → Type} [FloatOps F]

/-- It has no operation. -/
abbrev ops : List (HloOp τ sig (Elt F)) := []

/-- The reference is its list of operations. -/
theorem main_eq (c : Dev nD) : main (F := F) c = seq ops := rfl
/-- They touch none but the core's buffers. -/
theorem ops_sub : (ops : List (HloOp τ sig (Elt F))).Forall fun op => op.bufs ⊆ tcRefs τ sig := trivial

/-- It runs, and its result, which is its argument, is as it was. -/
theorem run (m : (l : Loc nD τ sig) → Buf (Elt F) l) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq (by decide) (by decide) defs main (fun _ => ops) main_eq (fun _ => ops_sub) m ρ)

end Cert.Reshard.Reference

namespace Cert.Reshard.ReferenceIdeal

open Cert.ReferenceIdeal Cert.ReferenceIdeal.Gen

variable {F : FTy → Type} [FloatOps F]

/-- It has no operation. -/
abbrev ops : List (HloOp τ sig (Elt F)) := []

/-- The reference is its list of operations. -/
theorem main_eq (c : Dev nD) : main (F := F) c = seq ops := rfl
/-- They touch none but the core's buffers. -/
theorem ops_sub : (ops : List (HloOp τ sig (Elt F))).Forall fun op => op.bufs ⊆ tcRefs τ sig := trivial

/-- It runs, and its result, which is its argument, is as it was. -/
theorem run (m : (l : Loc nD τ sig) → Buf (Elt F) l) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq (by decide) (by decide) defs main (fun _ => ops) main_eq (fun _ => ops_sub) m ρ)

end Cert.Reshard.ReferenceIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Same
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The first printing of the kernel runs, leaves its input unchanged and every semaphore at zero. -/
theorem kernel_quiescent : Cert.quiescent_Kernel := fun m g _ =>
  (θ_run _ _ _).mono (fun _ h => ⟨fun c => (h.1 c).2, h.2⟩) (Cert.Reshard.run_result_first m g)

/-- So does the second printing. -/
theorem kernelIdeal_quiescent : Cert.quiescent_KernelIdeal := fun m g _ =>
  (θ_run _ _ _).mono (fun _ h => ⟨fun c => (h.1 c).2, h.2⟩) (Cert.Reshard.run_result m g)

/-- Over the extended reals the devices end holding the columns of the reference's result. -/
theorem values_ideal : Cert.algebraic_KernelIdeal_ReferenceIdeal := fun m g m' g' _ h =>
  ⟨m' (((0 : Dev Cert.ReferenceIdeal.nD).tc : Thread Cert.ReferenceIdeal.nD Cert.ReferenceIdeal.τ).loc
      Cert.ReferenceIdeal.main_arg0),
    (θ_run _ _ _).mono
      (fun _ hr c => ⟨((hr.1 c).1).trans (Cert.Reshard.full_block _ _ h c), (hr.1 c).2⟩)
      (Cert.Reshard.run_result m g),
    (θ_run _ _ _).mono (fun _ hr => ⟨hr.1 0, hr.1 0⟩) (Cert.Reshard.ReferenceIdeal.run m' g')⟩

/-- So they do bit for bit. -/
theorem values_bits : Cert.bitexact_Kernel_Reference := fun m g m' g' _ h =>
  ⟨m' (((0 : Dev Cert.Reference.nD).tc : Thread Cert.Reference.nD Cert.Reference.τ).loc
      Cert.Reference.main_arg0),
    (θ_run _ _ _).mono
      (fun _ hr c => ⟨((hr.1 c).1).trans (Cert.Reshard.full_block _ _ h c), (hr.1 c).2⟩)
      (Cert.Reshard.run_result_first m g),
    (θ_run _ _ _).mono (fun _ hr => ⟨hr.1 0, hr.1 0⟩) (Cert.Reshard.Reference.run m' g')⟩

/-- Everything the certificate claims. -/
theorem claim : Cert.Claim :=
  ⟨Cert.Kernel.Gen.facts, Cert.KernelIdeal.Gen.facts, Cert.ReferenceIdeal.Gen.facts, Cert.Reference.Gen.facts,
    kernel_quiescent, kernelIdeal_quiescent, fun m g _ => Cert.Reshard.ReferenceIdeal.run m g,
    fun m g _ => Cert.Reshard.Reference.run m g, trivial, values_ideal, values_bits⟩

end Cert.Proof

end
